-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x50000x6x4x32 : Shape := ⟨5, ![1, 50000, 6, 4, 32]⟩
abbrev S2x1x200000 : Shape := ⟨3, ![2, 1, 200000]⟩
abbrev S1x6 : Shape := ⟨2, ![1, 6]⟩
abbrev S5 : Shape := ⟨1, ![5]⟩
abbrev S6x4 : Shape := ⟨2, ![6, 4]⟩
abbrev S_ : Shape := ⟨0, ![]⟩

class Facts : Prop where
  bcast_S_S1x50000x6x4x32 : S_.BroadcastsInDim S1x50000x6x4x32 (![] : Fin 0 → Fin S1x50000x6x4x32.rank)
  reducesTo_S1x50000x6x4x32_S_d0_1_2_3_4 : S1x50000x6x4x32.ReducesTo [0, 1, 2, 3, 4] S_
  h_S_ : 0 < S_.numel
  bcast_S_S5 : S_.BroadcastsInDim S5 (![] : Fin 0 → Fin S5.rank)
  reducesTo_S5_S_d0 : S5.ReducesTo [0] S_

variable [Facts]

def fn {F : FTy → Type} [FloatOps F] (main_arg0 : FVec F S1x50000x6x4x32 .f32) (main_arg1 : FVec F S2x1x200000 .f32) (main_arg2 : FVec F S1x6 .f32) (main_arg3 : FVec F S1x6 .f32) (main_arg4 : FVec F S5 .f32) (main_arg5 : FVec F S6x4 .f32) (main_arg6 : FVec F S6x4 .f32) : IVec S_ 1 :=
  let main_v0 : FVec F S1x50000x6x4x32 .f32 := Host.absf main_arg0
  let main_cst : FVec F S_ .f32 := constant S_ .f32 0x7F800000#32
  let main_v1 : FVec F S1x50000x6x4x32 .f32 := broadcastInDim S1x50000x6x4x32 ![] bcast_S_S1x50000x6x4x32 main_cst
  let main_v2 : IVec S1x50000x6x4x32 1 := cmpf .olt main_v0 main_v1
  let main_c : IVec S_ 1 := constantI S_ 1 1#1
  let main_v3 : IVec S_ 1 := (fun x v => Host.reduce IntOp.andi x v reducesTo_S1x50000x6x4x32_S_d0_1_2_3_4 h_S_) main_v2 main_c
  let main_v4 : FVec F S5 .f32 := Host.absf main_arg4
  let main_cst_0 : FVec F S_ .f32 := constant S_ .f32 0x7F800000#32
  let main_v5 : FVec F S5 .f32 := broadcastInDim S5 ![] bcast_S_S5 main_cst_0
  let main_v6 : IVec S5 1 := cmpf .olt main_v4 main_v5
  let main_c_1 : IVec S_ 1 := constantI S_ 1 1#1
  let main_v7 : IVec S_ 1 := (fun x v => Host.reduce IntOp.andi x v reducesTo_S5_S_d0 h_S_) main_v6 main_c_1
  let main_v8 : IVec S_ 1 := andi main_v3 main_v7
  main_v8
-- ==== Kernel.lean ====
abbrev S1x50000x6x4x32 : Shape := ⟨5, ![1, 50000, 6, 4, 32]⟩
abbrev S2x1x200000 : Shape := ⟨3, ![2, 1, 200000]⟩
abbrev S1x6 : Shape := ⟨2, ![1, 6]⟩
abbrev S5 : Shape := ⟨1, ![5]⟩
abbrev S6x4 : Shape := ⟨2, ![6, 4]⟩
abbrev S128x32 : Shape := ⟨2, ![128, 32]⟩
abbrev S32x128 : Shape := ⟨2, ![32, 128]⟩
abbrev S128x128 : Shape := ⟨2, ![128, 128]⟩
abbrev S4x128 : Shape := ⟨2, ![4, 128]⟩
abbrev S50000x768 : Shape := ⟨2, ![50000, 768]⟩
abbrev S2x50000x4 : Shape := ⟨3, ![2, 50000, 4]⟩
abbrev S_ : Shape := ⟨0, ![]⟩
abbrev S1 : Shape := ⟨1, ![1]⟩
abbrev S1x5 : Shape := ⟨2, ![1, 5]⟩
abbrev S6x1 : Shape := ⟨2, ![6, 1]⟩
abbrev S6 : Shape := ⟨1, ![6]⟩
abbrev S1x4 : Shape := ⟨2, ![1, 4]⟩
abbrev S4 : Shape := ⟨1, ![4]⟩
abbrev S4x32 : Shape := ⟨2, ![4, 32]⟩
abbrev S128 : Shape := ⟨1, ![128]⟩
abbrev S1x128 : Shape := ⟨2, ![1, 128]⟩
abbrev S50000x128 : Shape := ⟨2, ![50000, 128]⟩
abbrev S1000x768 : Shape := ⟨2, ![1000, 768]⟩
abbrev S2x1000x4 : Shape := ⟨3, ![2, 1000, 4]⟩
abbrev S1000x128 : Shape := ⟨2, ![1000, 128]⟩
abbrev S1000x32 : Shape := ⟨2, ![1000, 32]⟩
abbrev S1x1 : Shape := ⟨2, ![1, 1]⟩
abbrev S1x1000x1 : Shape := ⟨3, ![1, 1000, 1]⟩
abbrev S1000x1 : Shape := ⟨2, ![1000, 1]⟩
abbrev S1x1000x4 : Shape := ⟨3, ![1, 1000, 4]⟩
abbrev S1000x4 : Shape := ⟨2, ![1000, 4]⟩

abbrev nBuf : Space → Nat
  | .hbm => 39
  | .vmem => 11
  | .smem => 3
  | _ => 0

abbrev bufTy : (tb : Table) → Fin (tcTables nBuf tb) → BufTy
  | .hbm, ⟨0, _⟩ => ⟨S1x50000x6x4x32, .f32⟩
  | .hbm, ⟨1, _⟩ => ⟨S2x1x200000, .f32⟩
  | .hbm, ⟨2, _⟩ => ⟨S1x6, .f32⟩
  | .hbm, ⟨3, _⟩ => ⟨S1x6, .f32⟩
  | .hbm, ⟨4, _⟩ => ⟨S5, .f32⟩
  | .hbm, ⟨5, _⟩ => ⟨S6x4, .f32⟩
  | .hbm, ⟨6, _⟩ => ⟨S6x4, .f32⟩
  | .hbm, ⟨7, _⟩ => ⟨S128x32, .f32⟩
  | .hbm, ⟨8, _⟩ => ⟨S32x128, .f32⟩
  | .hbm, ⟨9, _⟩ => ⟨S128x128, .f32⟩
  | .hbm, ⟨10, _⟩ => ⟨S4x128, .f32⟩
  | .hbm, ⟨11, _⟩ => ⟨S50000x768, .f32⟩
  | .hbm, ⟨12, _⟩ => ⟨S2x50000x4, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S5, .f32⟩
  | .hbm, ⟨19, _⟩ => ⟨S5, .f32⟩
  | .hbm, ⟨20, _⟩ => ⟨S5, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S5, .f32⟩
  | .hbm, ⟨25, _⟩ => ⟨S5, .f32⟩
  | .hbm, ⟨26, _⟩ => ⟨S1x5, .f32⟩
  | .hbm, ⟨27, _⟩ => ⟨S6x1, .f32⟩
  | .hbm, ⟨28, _⟩ => ⟨S6, .f32⟩
  | .hbm, ⟨29, _⟩ => ⟨S6, .f32⟩
  | .hbm, ⟨30, _⟩ => ⟨S6, .f32⟩
  | .hbm, ⟨31, _⟩ => ⟨S1x6, .f32⟩
  | .hbm, ⟨32, _⟩ => ⟨S1x4, .f32⟩
  | .hbm, ⟨33, _⟩ => ⟨S4, .f32⟩
  | .hbm, ⟨34, _⟩ => ⟨S4, .f32⟩
  | .hbm, ⟨35, _⟩ => ⟨S4x32, .f32⟩
  | .hbm, ⟨36, _⟩ => ⟨S128, .f32⟩
  | .hbm, ⟨37, _⟩ => ⟨S1x128, .f32⟩
  | .hbm, ⟨38, _⟩ => ⟨S50000x128, .f32⟩
  | .local _ .vmem, ⟨0, _⟩ => ⟨S128x32, .f32⟩
  | .local _ .vmem, ⟨1, _⟩ => ⟨S32x128, .f32⟩
  | .local _ .vmem, ⟨2, _⟩ => ⟨S128x128, .f32⟩
  | .local _ .vmem, ⟨3, _⟩ => ⟨S4x128, .f32⟩
  | .local _ .vmem, ⟨4, _⟩ => ⟨S1x128, .f32⟩
  | .local _ .vmem, ⟨5, _⟩ => ⟨S1000x768, .f32⟩
  | .local _ .vmem, ⟨6, _⟩ => ⟨S1000x768, .f32⟩
  | .local _ .vmem, ⟨7, _⟩ => ⟨S2x1000x4, .f32⟩
  | .local _ .vmem, ⟨8, _⟩ => ⟨S2x1000x4, .f32⟩
  | .local _ .vmem, ⟨9, _⟩ => ⟨S1000x128, .f32⟩
  | .local _ .vmem, ⟨10, _⟩ => ⟨S1000x128, .f32⟩
  | .local _ .smem, ⟨0, _⟩ => ⟨S1x5, .f32⟩
  | .local _ .smem, ⟨1, _⟩ => ⟨S1x6, .f32⟩
  | .local _ .smem, ⟨2, _⟩ => ⟨S1x6, .f32⟩
  | _, _ => ⟨S1x50000x6x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_cst_0 : Ref sig .tc := ⟨.hbm, 8, rfl⟩
abbrev main_call0_cst_1 : Ref sig .tc := ⟨.hbm, 9, rfl⟩
abbrev main_call0_cst_2 : Ref sig .tc := ⟨.hbm, 10, rfl⟩
abbrev main_call0_v0 : Ref sig .tc := ⟨.hbm, 11, rfl⟩
abbrev main_call0_v1 : Ref sig .tc := ⟨.hbm, 12, rfl⟩
abbrev main_call0_cst_3 : Ref sig .tc := ⟨.hbm, 13, rfl⟩
abbrev main_call0_v2 : Ref sig .tc := ⟨.hbm, 14, rfl⟩
abbrev main_call0_cst_4 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_5 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_v0 : Ref sig .tc := ⟨.hbm, 38, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg8_1 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem8_1 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1000x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1000x4 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S1x50000x6x4x32 : Shape := ⟨5, ![1, 50000, 6, 4, 32]⟩
abbrev S2x1x200000 : Shape := ⟨3, ![2, 1, 200000]⟩
abbrev S1x6 : Shape := ⟨2, ![1, 6]⟩
abbrev S5 : Shape := ⟨1, ![5]⟩
abbrev S6x4 : Shape := ⟨2, ![6, 4]⟩
abbrev S50000x6x4x32 : Shape := ⟨4, ![50000, 6, 4, 32]⟩
abbrev S50000x5x4x32 : Shape := ⟨4, ![50000, 5, 4, 32]⟩
abbrev S50000x1x4x32 : Shape := ⟨4, ![50000, 1, 4, 32]⟩
abbrev S_ : Shape := ⟨0, ![]⟩
abbrev S50000x1x32 : Shape := ⟨3, ![50000, 1, 32]⟩
abbrev S1 : Shape := ⟨1, ![1]⟩
abbrev S1x5x1x1 : Shape := ⟨4, ![1, 5, 1, 1]⟩
abbrev S50000x4x32 : Shape := ⟨3, ![50000, 4, 32]⟩
abbrev S50000x32 : Shape := ⟨2, ![50000, 32]⟩
abbrev S50000x32x4 : Shape := ⟨3, ![50000, 32, 4]⟩
abbrev S1x4 : Shape := ⟨2, ![1, 4]⟩
abbrev S4 : Shape := ⟨1, ![4]⟩
abbrev S4x1 : Shape := ⟨2, ![4, 1]⟩
abbrev S50000x32x1 : Shape := ⟨3, ![50000, 32, 1]⟩
abbrev S50000x6x32 : Shape := ⟨3, ![50000, 6, 32]⟩
abbrev S6x1 : Shape := ⟨2, ![6, 1]⟩
abbrev S6 : Shape := ⟨1, ![6]⟩
abbrev S1x6x1 : Shape := ⟨3, ![1, 6, 1]⟩
abbrev S50000x32x6 : Shape := ⟨3, ![50000, 32, 6]⟩
abbrev S2x1x50000x4 : Shape := ⟨4, ![2, 1, 50000, 4]⟩
abbrev S2x1x50000x1 : Shape := ⟨4, ![2, 1, 50000, 1]⟩
abbrev S2x1x50000 : Shape := ⟨3, ![2, 1, 50000]⟩
abbrev S2x1x50000x1x1 : Shape := ⟨5, ![2, 1, 50000, 1, 1]⟩
abbrev S2x1x50000x1x4 : Shape := ⟨5, ![2, 1, 50000, 1, 4]⟩
abbrev S1x1x50000x1x1 : Shape := ⟨5, ![1, 1, 50000, 1, 1]⟩
abbrev S1x50000x1x1 : Shape := ⟨4, ![1, 50000, 1, 1]⟩
abbrev S1x1x50000x1x4 : Shape := ⟨5, ![1, 1, 50000, 1, 4]⟩
abbrev S1x50000x1x4 : Shape := ⟨4, ![1, 50000, 1, 4]⟩
abbrev S1x50000x4x1 : Shape := ⟨4, ![1, 50000, 4, 1]⟩
abbrev S1x50000x1x32 : Shape := ⟨4, ![1, 50000, 1, 32]⟩
abbrev S1x50000x4x32 : Shape := ⟨4, ![1, 50000, 4, 32]⟩
abbrev S50000x128 : Shape := ⟨2, ![50000, 128]⟩

abbrev nBuf : Space → Nat
  | .hbm => 182
  | .vmem => 0
  | .smem => 0
  | _ => 0

abbrev hbmTy0_0 (i : Nat) : BufTy := match i % 128 with
  | 0 => ⟨S1x50000x6x4x32, .f32⟩
  | 1 => ⟨S2x1x200000, .f32⟩
  | 2 => ⟨S1x6, .f32⟩
  | 3 => ⟨S1x6, .f32⟩
  | 4 => ⟨S5, .f32⟩
  | 5 => ⟨S6x4, .f32⟩
  | 6 => ⟨S6x4, .f32⟩
  | 7 => ⟨S50000x6x4x32, .f32⟩
  | 8 => ⟨S50000x5x4x32, .f32⟩
  | 9 => ⟨S50000x1x4x32, .f32⟩
  | 10 => ⟨S_, .f32⟩
  | 11 => ⟨S50000x1x32, .f32⟩
  | 12 => ⟨S_, .f32⟩
  | 13 => ⟨S50000x1x32, .f32⟩
  | 14 => ⟨S50000x1x32, .f32⟩
  | 15 => ⟨S_, .f32⟩
  | 16 => ⟨S_, .f32⟩
  | 17 => ⟨S_, .f32⟩
  | 18 => ⟨S_, .f32⟩
  | 19 => ⟨S1, .f32⟩
  | 20 => ⟨S5, .f32⟩
  | 21 => ⟨S5, .f32⟩
  | 22 => ⟨S5, .f32⟩
  | 23 => ⟨S_, .f32⟩
  | 24 => ⟨S_, .f32⟩
  | 25 => ⟨S1, .f32⟩
  | 26 => ⟨S5, .f32⟩
  | 27 => ⟨S5, .f32⟩
  | 28 => ⟨S1x5x1x1, .f32⟩
  | 29 => ⟨S50000x5x4x32, .f32⟩
  | 30 => ⟨S50000x5x4x32, .f32⟩
  | 31 => ⟨S_, .f32⟩
  | 32 => ⟨S50000x4x32, .f32⟩
  | 33 => ⟨S_, .f32⟩
  | 34 => ⟨S50000x32, .f32⟩
  | 35 => ⟨S_, .f32⟩
  | 36 => ⟨S50000x32, .f32⟩
  | 37 => ⟨S50000x32, .f32⟩
  | 38 => ⟨S50000x1x32, .f32⟩
  | 39 => ⟨S50000x4x32, .f32⟩
  | 40 => ⟨S50000x4x32, .f32⟩
  | 41 => ⟨S50000x4x32, .f32⟩
  | 42 => ⟨S_, .f32⟩
  | 43 => ⟨S50000x32, .f32⟩
  | 44 => ⟨S50000x1x32, .f32⟩
  | 45 => ⟨S50000x4x32, .f32⟩
  | 46 => ⟨S50000x4x32, .f32⟩
  | 47 => ⟨S50000x32x4, .f32⟩
  | 48 => ⟨S1x4, .f32⟩
  | 49 => ⟨S4, .f32⟩
  | 50 => ⟨S4, .f32⟩
  | 51 => ⟨S4x1, .f32⟩
  | 52 => ⟨S50000x32x1, .f32⟩
  | 53 => ⟨S_, .f32⟩
  | 54 => ⟨S_, .f32⟩
  | 55 => ⟨S_, .f32⟩
  | 56 => ⟨S50000x32x1, .f32⟩
  | 57 => ⟨S50000x32x1, .f32⟩
  | 58 => ⟨S_, .f32⟩
  | 59 => ⟨S50000x32x1, .f32⟩
  | 60 => ⟨S50000x32x1, .f32⟩
  | 61 => ⟨S50000x32x1, .f32⟩
  | 62 => ⟨S_, .f32⟩
  | 63 => ⟨S50000x32x1, .f32⟩
  | 64 => ⟨S50000x32x1, .f32⟩
  | 65 => ⟨S50000x1x4x32, .f32⟩
  | 66 => ⟨S50000x6x4x32, .f32⟩
  | 67 => ⟨S50000x6x4x32, .f32⟩
  | 68 => ⟨S_, .f32⟩
  | 69 => ⟨S50000x6x32, .f32⟩
  | 70 => ⟨S_, .f32⟩
  | 71 => ⟨S50000x32, .f32⟩
  | 72 => ⟨S_, .f32⟩
  | 73 => ⟨S50000x32, .f32⟩
  | 74 => ⟨S50000x32, .f32⟩
  | 75 => ⟨S50000x1x32, .f32⟩
  | 76 => ⟨S50000x6x32, .f32⟩
  | 77 => ⟨S50000x6x32, .f32⟩
  | 78 => ⟨S50000x6x32, .f32⟩
  | 79 => ⟨S_, .f32⟩
  | 80 => ⟨S50000x32, .f32⟩
  | 81 => ⟨S50000x1x32, .f32⟩
  | 82 => ⟨S50000x6x32, .f32⟩
  | 83 => ⟨S50000x6x32, .f32⟩
  | 84 => ⟨S6x1, .f32⟩
  | 85 => ⟨S6, .f32⟩
  | 86 => ⟨S6x1, .f32⟩
  | 87 => ⟨S1x6x1, .f32⟩
  | 88 => ⟨S50000x6x32, .f32⟩
  | 89 => ⟨S50000x6x32, .f32⟩
  | 90 => ⟨S50000x32x6, .f32⟩
  | 91 => ⟨S6x1, .f32⟩
  | 92 => ⟨S50000x32x1, .f32⟩
  | 93 => ⟨S50000x32x1, .f32⟩
  | 94 => ⟨S50000x32x1, .f32⟩
  | 95 => ⟨S_, .f32⟩
  | 96 => ⟨S50000x32x1, .f32⟩
  | 97 => ⟨S50000x32x1, .f32⟩
  | 98 => ⟨S_, .f32⟩
  | 99 => ⟨S50000x32x1, .f32⟩
  | 100 => ⟨S50000x32x1, .f32⟩
  | 101 => ⟨S_, .f32⟩
  | 102 => ⟨S50000x32x1, .f32⟩
  | 103 => ⟨S50000x32x1, .f32⟩
  | 104 => ⟨S50000x6x32, .f32⟩
  | 105 => ⟨S50000x6x32, .f32⟩
  | 106 => ⟨S50000x32x6, .f32⟩
  | 107 => ⟨S6x1, .f32⟩
  | 108 => ⟨S50000x32x1, .f32⟩
  | 109 => ⟨S2x1x50000x4, .f32⟩
  | 110 => ⟨S2x1x50000x1, .f32⟩
  | 111 => ⟨S2x1x50000, .f32⟩
  | 112 => ⟨S2x1x50000x1x1, .f32⟩
  | 113 => ⟨S2x1x50000x1x4, .f32⟩
  | 114 => ⟨S1x1x50000x1x1, .f32⟩
  | 115 => ⟨S1x50000x1x1, .f32⟩
  | 116 => ⟨S1x1x50000x1x1, .f32⟩
  | 117 => ⟨S1x50000x1x1, .f32⟩
  | 118 => ⟨S1x1x50000x1x4, .f32⟩
  | 119 => ⟨S1x50000x1x4, .f32⟩
  | 120 => ⟨S1x1x50000x1x4, .f32⟩
  | 121 => ⟨S1x50000x1x4, .f32⟩
  | 122 => ⟨S1x50000x1x4, .f32⟩
  | 123 => ⟨S1x50000x1x4, .f32⟩
  | 124 => ⟨S1x50000x1x1, .f32⟩
  | 125 => ⟨S1x50000x1x4, .f32⟩
  | 126 => ⟨S1x50000x1x4, .f32⟩
  | 127 => ⟨S1x50000x1x4, .f32⟩
  | _ => ⟨S1x50000x6x4x32, .f32⟩

abbrev hbmTy0_1 (i : Nat) : BufTy := match i % 128 with
  | 0 => ⟨S1x50000x1x1, .f32⟩
  | 1 => ⟨S1x50000x1x4, .f32⟩
  | 2 => ⟨S1x50000x1x4, .f32⟩
  | 3 => ⟨S1x50000x1x4, .f32⟩
  | 4 => ⟨S1x50000x1x4, .f32⟩
  | 5 => ⟨S1x50000x1x4, .f32⟩
  | 6 => ⟨S1x50000x1x4, .f32⟩
  | 7 => ⟨S_, .f32⟩
  | 8 => ⟨S_, .f32⟩
  | 9 => ⟨S_, .f32⟩
  | 10 => ⟨S1x50000x1x4, .f32⟩
  | 11 => ⟨S1x50000x1x4, .f32⟩
  | 12 => ⟨S_, .f32⟩
  | 13 => ⟨S1x50000x1x4, .f32⟩
  | 14 => ⟨S1x50000x1x4, .f32⟩
  | 15 => ⟨S1x50000x1x4, .f32⟩
  | 16 => ⟨S1x50000x1x4, .f32⟩
  | 17 => ⟨S1x50000x1x4, .f32⟩
  | 18 => ⟨S1x50000x1x4, .f32⟩
  | 19 => ⟨S1x50000x1x1, .f32⟩
  | 20 => ⟨S1x50000x1x4, .f32⟩
  | 21 => ⟨S1x50000x1x4, .f32⟩
  | 22 => ⟨S1x50000x1x4, .f32⟩
  | 23 => ⟨S1x50000x1x1, .f32⟩
  | 24 => ⟨S1x50000x1x4, .f32⟩
  | 25 => ⟨S1x50000x1x4, .f32⟩
  | 26 => ⟨S1x50000x1x4, .f32⟩
  | 27 => ⟨S1x50000x1x4, .f32⟩
  | 28 => ⟨S1x50000x1x4, .f32⟩
  | 29 => ⟨S1x50000x1x4, .f32⟩
  | 30 => ⟨S1x50000x1x4, .f32⟩
  | 31 => ⟨S1x50000x4x1, .f32⟩
  | 32 => ⟨S1x50000x4x1, .f32⟩
  | 33 => ⟨S1x50000x1x32, .f32⟩
  | 34 => ⟨S1x50000x1x32, .f32⟩
  | 35 => ⟨S1x50000x1x32, .f32⟩
  | 36 => ⟨S1x50000x1x32, .f32⟩
  | 37 => ⟨S_, .f32⟩
  | 38 => ⟨S1x50000x1x32, .f32⟩
  | 39 => ⟨S1x50000x1x32, .f32⟩
  | 40 => ⟨S1x50000x4x32, .f32⟩
  | 41 => ⟨S1x50000x4x32, .f32⟩
  | 42 => ⟨S1x50000x4x32, .f32⟩
  | 43 => ⟨S1x50000x4x32, .f32⟩
  | 44 => ⟨S1x50000x4x32, .f32⟩
  | 45 => ⟨S1x50000x4x32, .f32⟩
  | 46 => ⟨S1x50000x4x32, .f32⟩
  | 47 => ⟨S1x50000x4x32, .f32⟩
  | 48 => ⟨S1x50000x4x32, .f32⟩
  | 49 => ⟨S1x50000x4x32, .f32⟩
  | 50 => ⟨S1x50000x4x32, .f32⟩
  | 51 => ⟨S1x50000x4x32, .f32⟩
  | 52 => ⟨S1x50000x4x32, .f32⟩
  | 53 => ⟨S50000x128, .f32⟩
  | _ => ⟨S1x50000x6x4x32, .f32⟩

abbrev hbmTy (i : Nat) : BufTy := match i / 128 with
  | 0 => hbmTy0_0 i
  | 1 => hbmTy0_1 i
  | _ => ⟨S1x50000x6x4x32, .f32⟩

abbrev bufTy : (tb : Table) → Fin (tcTables nBuf tb) → BufTy
  | .hbm, ⟨i, _⟩ => hbmTy i
  | _, _ => ⟨S1x50000x6x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_cst_13 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_cst_17 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_18 : Ref sig .tc := ⟨.hbm, 135, rfl⟩
abbrev main_cst_19 : Ref sig .tc := ⟨.hbm, 136, rfl⟩
abbrev main_call1_v0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_cst_20 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩

abbrev nD : Nat := 1
abbrev τ : Topo := Topo.v7x

variable {F : FTy → Type} [FloatOps F]
-- ==== Proof.Spec.lean ====
/-
  What the problem computes for one row, as plain arithmetic on extended reals: softmax weights over the four
  neighbours, the direction, the weighted sums, wavelength and amplitude, the angle and the distance on the sphere, and
  the wave they give. Nothing here mentions an array, a block or a program; `Ref.lean` reads the reference as these
  functions and `Block.lean` reads the kernel as them.
-/
module

public import Idealize.ShloMosaic.PureOps.Ideal

@[expose] public section

noncomputable section

namespace Wave

open Idealize.ShloMosaic

/-- Minus infinity, as the programs write it. -/
abbrev ninf : EReal := Ideal.ofBits .f32 0xFF800000#32
/-- Half of pi, as the programs write it. -/
abbrev halfPi : EReal := Ideal.ofBits .f32 0x3FC90FDB#32
/-- Twice pi, as the programs write it. -/
abbrev twoPi : EReal := Ideal.ofBits .f32 0x40C90FDB#32
/-- The smallest wavelength, as the programs write it. -/
abbrev minLen : EReal := Ideal.ofBits .f32 0x3A83126F#32
/-- Minus one, as the programs write it. -/
abbrev mone : EReal := Ideal.ofBits .f32 0xBF800000#32
/-- One, as the programs write it. -/
abbrev one : EReal := Ideal.ofBits .f32 0x3F800000#32
/-- Four, as the reference writes it. -/
abbrev four : EReal := Ideal.ofBits .f32 0x40800000#32
/-- A quarter, as the kernel writes it. -/
abbrev quarter : EReal := Ideal.ofBits .f32 0x3E800000#32

/-- The largest entry. -/
def top {n : Nat} (a : Fin n → EReal) : EReal := max ninf (Finset.univ.fold max ninf a)

/-- Softmax, with the largest entry subtracted first. -/
def soft {n : Nat} (a : Fin n → EReal) (q : Fin n) : EReal :=
  Ideal.div (Ideal.exp (a q - top a)) (∑ q', Ideal.exp (a q' - top a))

/-- Clipping to the interval from minus one to one. -/
def clip (z : EReal) : EReal := min one (max mone z)

/-- The row's exponent for neighbour `v` and feature `f`: the five weights against the five channels after the first. -/
def env (w : Fin 5 → EReal) (x : Fin 6 → Fin 4 → Fin 32 → EReal) (v : Fin 4) (f : Fin 32) : EReal :=
  ∑ d : Fin 5, w d * x ⟨1 + d.val, by omega⟩ v f

/-- The direction weights: softmax over the four neighbours. -/
def dw (w : Fin 5 → EReal) (x : Fin 6 → Fin 4 → Fin 32 → EReal) (v : Fin 4) (f : Fin 32) : EReal :=
  soft (fun v' => env w x v' f) v

/-- The direction of feature `f`. -/
def dirn (g : Fin 4 → Fin 32 → EReal) (cp : Fin 4 → EReal) (f : Fin 32) : EReal :=
  Ideal.acos (clip (∑ v : Fin 4, g v f * cp v)) + halfPi

/-- The direction weights laid out feature by feature and read back neighbour by neighbour. -/
def relaid (g : Fin 4 → Fin 32 → EReal) (v : Fin 4) (f : Fin 32) : EReal :=
  g ⟨f.val % 4, Nat.mod_lt _ (by decide)⟩ ⟨v.val * 8 + f.val / 4, by omega⟩

/-- Each channel summed over the neighbours with those weights. -/
def xw (x : Fin 6 → Fin 4 → Fin 32 → EReal) (g : Fin 4 → Fin 32 → EReal) (d : Fin 6) (f : Fin 32) : EReal :=
  ∑ v : Fin 4, x d v f * relaid g v f

/-- The first channel's mean over the neighbours. -/
def off (x : Fin 6 → Fin 4 → Fin 32 → EReal) (f : Fin 32) : EReal :=
  Ideal.div (∑ v : Fin 4, x 0 v f) four

/-- The wavelength of feature `f`. -/
def wlen (s : Fin 6 → Fin 32 → EReal) (d0 ww : Fin 6 → EReal) (f : Fin 32) : EReal :=
  Ideal.div one (one + Ideal.exp (-(∑ d : Fin 6, soft (fun d' => s d' f) d * d0 d * ww d))) + minLen

/-- The amplitude of feature `f`. -/
def amp (s : Fin 6 → Fin 32 → EReal) (o : Fin 32 → EReal) (wa : Fin 6 → EReal) (f : Fin 32) : EReal :=
  ∑ d : Fin 6, (s d f - o f) * wa d

/-- The distance on the unit sphere from the first point to point `k`. -/
def dist (la lo : Fin 4 → EReal) (k : Fin 4) : EReal :=
  Ideal.acos (clip (Ideal.sin (la 0) * Ideal.sin (la k) + Ideal.cos (la 0) * Ideal.cos (la k) * Ideal.cos (lo k - lo 0)))

/-- The bearing from the first point to point `k`: the two-argument arctangent. -/
def phi (la lo : Fin 4 → EReal) (k : Fin 4) : EReal :=
  Ideal.atan2 (Ideal.sin (lo k - lo 0) * Ideal.cos (la k))
    (Ideal.cos (la 0) * Ideal.sin (la k) - Ideal.sin (la 0) * Ideal.cos (la k) * Ideal.cos (lo k - lo 0))

/-- The wave: amplitude times the cosine of the projected phase, plus the mean. -/
def wave (a o len dir bearing dst : EReal) : EReal :=
  a * Ideal.cos (Ideal.div twoPi len * Ideal.cos (dir - bearing) * dst) + o

/-- One entry of the result: point `k`, feature `f`, of the row whose channels are `x`. -/
def out (w : Fin 5 → EReal) (x : Fin 6 → Fin 4 → Fin 32 → EReal) (wa ww d0 : Fin 6 → EReal) (cp la lo : Fin 4 → EReal)
    (k : Fin 4) (f : Fin 32) : EReal :=
  wave (amp (xw x (dw w x)) (off x) wa f) (off x f) (wlen (xw x (dw w x)) d0 ww f) (dirn (dw w x) cp f)
    (phi la lo k) (dist la lo k)

end Wave

end
-- ==== Proof.Ref.lean ====
/-
  The reference, read row by row. Its one composed term is cut into stages, each stage is read at an index, and the
  whole is `Wave.out` of the row: no condition on the arguments is used.
-/
module

public import proofs.«01_k».proof.Defs
public import proofs.«01_k».proof.Proof.Gen.ReferenceIdeal.Run
public import proofs.«01_k».proof.Proof.Spec
public import Idealize.ShloMosaic.Lib.Pointwise

@[expose] public section

set_option maxRecDepth 16384

noncomputable section

namespace Cert.ReferenceIdeal.Ref

open Cert.ReferenceIdeal Cert.ReferenceIdeal.Gen Idealize.ShloMosaic Idealize.ShloMosaic.TcCoe Idealize.SL.Sem

/-- An array of extended reals. -/
abbrev A (s : Shape) : Type := FVec Ideal s .f32

/-- The five channel weights: softmax of the fifth argument. -/
def wts (a4 : A S5) : A S5 :=
  have e : A S5 := Host.exp (subf a4 (broadcastInDim S5 ![0] bcast_S1_S5_0 (broadcastInDim S1 ![] bcast_S_S1 (maximumf (constant S_ .f32 0xFF800000#32) (Host.reduce FloatOps.maximumf a4 (constant S_ .f32 0xFF800000#32) reducesTo_S5_S_d0 h_S_)))))
  Host.divf e (broadcastInDim S5 ![0] bcast_S1_S5_0 (broadcastInDim S1 ![] bcast_S_S1 (Host.reduceAdd e (constant S_ .f32 0x00000000#32) reducesTo_S5_S_d0 h_S_)))

/-- The exponents: channels one to five against the weights. -/
def env (x : A S50000x6x4x32) (w : A S5) : A S50000x4x32 :=
  Host.reduceAdd (mulf (broadcastInDim S50000x5x4x32 ![0, 1, 2, 3] bcast_S1x5x1x1_S50000x5x4x32_0_1_2_3 (shapeCast _ w shapeCasts_S5_S1x5x1x1)) (extractStridedSlice S50000x5x4x32 ![0, 1, 0, 0] x slices_S50000x6x4x32_S50000x5x4x32_0_1_0_0)) (constant S_ .f32 0x00000000#32) reducesTo_S50000x5x4x32_S50000x4x32_d1 h_S_

/-- The largest of the four neighbours' exponents. -/
def mx4 (g : A S50000x4x32) : A S50000x32 :=
  Host.reduce FloatOps.maximumf g (constant S_ .f32 0xFF800000#32) reducesTo_S50000x4x32_S50000x32_d1 h_S_

/-- Exponentials of the exponents less a bound, the largest of the four. -/
def ex4 (g : A S50000x4x32) (b : A S50000x32) : A S50000x4x32 :=
  Host.exp (subf g (broadcastInDim S50000x4x32 ![0, 1, 2] bcast_S50000x1x32_S50000x4x32_0_1_2 (broadcastInDim S50000x1x32 ![0, 2] bcast_S50000x32_S50000x1x32_0_2 (maximumf (broadcastInDim S50000x32 ![] bcast_S_S50000x32 (constant S_ .f32 0xFF800000#32)) b))))

/-- The sum over the four neighbours. -/
def sm4 (e : A S50000x4x32) : A S50000x32 :=
  Host.reduceAdd e (constant S_ .f32 0x00000000#32) reducesTo_S50000x4x32_S50000x32_d1 h_S_

/-- Each of the four over a total, neighbours last. -/
def dv4 (e : A S50000x4x32) (b : A S50000x32) : A S50000x32x4 :=
  transpose S50000x32x4 [0, 2, 1] (Host.divf e (broadcastInDim S50000x4x32 ![0, 1, 2] bcast_S50000x1x32_S50000x4x32_0_1_2 (broadcastInDim S50000x1x32 ![0, 2] bcast_S50000x32_S50000x1x32_0_2 b))) transposes_S50000x4x32_S50000x32x4_0_2_1

/-- Softmax of the exponents over the neighbours, neighbours last. -/
def dwt (g : A S50000x4x32) : A S50000x32x4 := dv4 (ex4 g (mx4 g)) (sm4 (ex4 g (mx4 g)))

/-- The channels summed over the neighbours with the weights laid out anew. -/
def xw (x : A S50000x6x4x32) (g : A S50000x32x4) : A S50000x6x32 :=
  Host.reduceAdd (mulf x (broadcastInDim S50000x6x4x32 ![0, 1, 2, 3] bcast_S50000x1x4x32_S50000x6x4x32_0_1_2_3 (shapeCast _ g shapeCasts_S50000x32x4_S50000x1x4x32))) (constant S_ .f32 0x00000000#32) reducesTo_S50000x6x4x32_S50000x6x32_d2 h_S_

/-- The first channel's mean. -/
def off (x : A S50000x6x4x32) : A S50000x1x32 :=
  Host.divf (Host.reduceAdd (extractStridedSlice S50000x1x4x32 ![0, 0, 0, 0] x slices_S50000x6x4x32_S50000x1x4x32_0_0_0_0) (constant S_ .f32 0x00000000#32) reducesTo_S50000x1x4x32_S50000x1x32_d2 h_S_) (broadcastInDim S50000x1x32 ![] bcast_S_S50000x1x32 (constant S_ .f32 0x40800000#32))

/-- The largest of the six sums. -/
def mx6 (s : A S50000x6x32) : A S50000x32 :=
  Host.reduce FloatOps.maximumf s (constant S_ .f32 0xFF800000#32) reducesTo_S50000x6x32_S50000x32_d1 h_S_

/-- Exponentials of the sums less a bound, the largest of the six. -/
def ex6 (s : A S50000x6x32) (b : A S50000x32) : A S50000x6x32 :=
  Host.exp (subf s (broadcastInDim S50000x6x32 ![0, 1, 2] bcast_S50000x1x32_S50000x6x32_0_1_2 (broadcastInDim S50000x1x32 ![0, 2] bcast_S50000x32_S50000x1x32_0_2 (maximumf (broadcastInDim S50000x32 ![] bcast_S_S50000x32 (constant S_ .f32 0xFF800000#32)) b))))

/-- The sum over the six channels. -/
def sm6 (e : A S50000x6x32) : A S50000x32 :=
  Host.reduceAdd e (constant S_ .f32 0x00000000#32) reducesTo_S50000x6x32_S50000x32_d1 h_S_

/-- Each of the six over a total. -/
def dv6 (e : A S50000x6x32) (b : A S50000x32) : A S50000x6x32 :=
  Host.divf e (broadcastInDim S50000x6x32 ![0, 1, 2] bcast_S50000x1x32_S50000x6x32_0_1_2 (broadcastInDim S50000x1x32 ![0, 2] bcast_S50000x32_S50000x1x32_0_2 b))

/-- Softmax of the sums over the six channels. -/
def soft6 (s : A S50000x6x32) : A S50000x6x32 := dv6 (ex6 s (mx6 s)) (sm6 (ex6 s (mx6 s)))

/-- The constant one at every feature of every row. -/
def ones : A S50000x32x1 := broadcastInDim S50000x32x1 ![] bcast_S_S50000x32x1 (constant S_ .f32 0x3F800000#32)

/-- The wavelengths. -/
def wlen (q : A S50000x6x32) (a5 : A S6x4) (a3 : A S1x6) : A S50000x32x1 :=
  addf (Host.divf ones (addf ones (Host.exp (Host.negf (Host.dotGeneral dot_S50000x32x6_S6x1_S50000x32x1_2_0_01_1_n_n none (transpose S50000x32x6 [0, 2, 1] (mulf q (broadcastInDim S50000x6x32 ![0, 1, 2] bcast_S1x6x1_S50000x6x32_0_1_2 (broadcastInDim S1x6x1 ![1, 2] bcast_S6x1_S1x6x1_1_2 (shapeCast _ (shapeCast S6 (extractStridedSlice S6x1 ![0, 0] a5 slices_S6x4_S6x1_0_0) shapeCasts_S6x1_S6) shapeCasts_S6_S6x1)))) transposes_S50000x6x32_S50000x32x6_0_2_1) (transpose S6x1 [1, 0] a3 transposes_S1x6_S6x1_1_0)))))) (broadcastInDim S50000x32x1 ![] bcast_S_S50000x32x1 (constant S_ .f32 0x3A83126F#32))

/-- The amplitudes. -/
def amp (s : A S50000x6x32) (o : A S50000x1x32) (a2 : A S1x6) : A S50000x32x1 :=
  Host.dotGeneral dot_S50000x32x6_S6x1_S50000x32x1_2_0_01_1_n_n none (transpose S50000x32x6 [0, 2, 1] (subf s (broadcastInDim S50000x6x32 ![0, 1, 2] bcast_S50000x1x32_S50000x6x32_0_1_2 o)) transposes_S50000x6x32_S50000x32x6_0_2_1) (transpose S6x1 [1, 0] a2 transposes_S1x6_S6x1_1_0)

/-- The directions. -/
def dirn (g : A S50000x32x4) (a6 : A S6x4) : A S50000x32x1 :=
  addf (Host.acos (minimumf (broadcastInDim S50000x32x1 ![] bcast_S_S50000x32x1 (id (constant S_ .f32 0x3F800000#32))) (maximumf (broadcastInDim S50000x32x1 ![] bcast_S_S50000x32x1 (id (constant S_ .f32 0xBF800000#32))) (Host.dotGeneral dot_S50000x32x4_S4x1_S50000x32x1_2_0_01_1_n_n none g (shapeCast _ (Host.cos (shapeCast S4 (extractStridedSlice S1x4 ![0, 0] a6 slices_S6x4_S1x4_0_0) shapeCasts_S1x4_S4)) shapeCasts_S4_S4x1))))) (broadcastInDim S50000x32x1 ![] bcast_S_S50000x32x1 (constant S_ .f32 0x3FC90FDB#32))

/-- All four points of every row, one coordinate. -/
def pts (a1 : A S2x1x200000) : A S2x1x50000x1x4 :=
  broadcastInDim S2x1x50000x1x4 ![0, 1, 2, 4] bcast_S2x1x50000x4_S2x1x50000x1x4_0_1_2_4 (shapeCast S2x1x50000x4 a1 shapeCasts_S2x1x200000_S2x1x50000x4)

/-- The first point of every row. -/
def pt0 (a1 : A S2x1x200000) : A S2x1x50000x1x1 :=
  broadcastInDim S2x1x50000x1x1 ![0, 1, 2] bcast_S2x1x50000_S2x1x50000x1x1_0_1_2 (shapeCast S2x1x50000 (extractStridedSlice S2x1x50000x1 ![0, 0, 0, 0] (shapeCast S2x1x50000x4 a1 shapeCasts_S2x1x200000_S2x1x50000x4) slices_S2x1x50000x4_S2x1x50000x1_0_0_0_0) shapeCasts_S2x1x50000x1_S2x1x50000)

/-- The first point's latitude. -/
def la0 (a1 : A S2x1x200000) : A S1x50000x1x1 :=
  shapeCast _ (extractStridedSlice S1x1x50000x1x1 ![0, 0, 0, 0, 0] (pt0 a1) slices_S2x1x50000x1x1_S1x1x50000x1x1_0_0_0_0_0) shapeCasts_S1x1x50000x1x1_S1x50000x1x1

/-- The four latitudes. -/
def la (a1 : A S2x1x200000) : A S1x50000x1x4 :=
  shapeCast _ (extractStridedSlice S1x1x50000x1x4 ![0, 0, 0, 0, 0] (pts a1) slices_S2x1x50000x1x4_S1x1x50000x1x4_0_0_0_0_0) shapeCasts_S1x1x50000x1x4_S1x50000x1x4

/-- The four longitudes less the first. -/
def dlo (a1 : A S2x1x200000) : A S1x50000x1x4 :=
  subf (shapeCast S1x50000x1x4 (extractStridedSlice S1x1x50000x1x4 ![1, 0, 0, 0, 0] (pts a1) slices_S2x1x50000x1x4_S1x1x50000x1x4_1_0_0_0_0) shapeCasts_S1x1x50000x1x4_S1x50000x1x4) (broadcastInDim S1x50000x1x4 ![0, 1, 2, 3] bcast_S1x50000x1x1_S1x50000x1x4_0_1_2_3 (shapeCast S1x50000x1x1 (extractStridedSlice S1x1x50000x1x1 ![1, 0, 0, 0, 0] (pt0 a1) slices_S2x1x50000x1x1_S1x1x50000x1x1_1_0_0_0_0) shapeCasts_S1x1x50000x1x1_S1x50000x1x1))

/-- The first point's value at each of the four. -/
def all4 (v : A S1x50000x1x1) : A S1x50000x1x4 :=
  broadcastInDim S1x50000x1x4 ![0, 1, 2, 3] bcast_S1x50000x1x1_S1x50000x1x4_0_1_2_3 v

/-- The bearings. -/
def phi (l0 : A S1x50000x1x1) (l dl : A S1x50000x1x4) : A S1x50000x1x4 :=
  Host.atan2 (mulf (Host.sin dl) (Host.cos l)) (subf (mulf (all4 (Host.cos l0)) (Host.sin l)) (mulf (mulf (all4 (Host.sin l0)) (Host.cos l)) (Host.cos dl)))

/-- The distances. -/
def dist (l0 : A S1x50000x1x1) (l dl : A S1x50000x1x4) : A S1x50000x1x4 :=
  Host.acos (minimumf (broadcastInDim S1x50000x1x4 ![] bcast_S_S1x50000x1x4 (id (constant S_ .f32 0x3F800000#32))) (maximumf (broadcastInDim S1x50000x1x4 ![] bcast_S_S1x50000x1x4 (id (constant S_ .f32 0xBF800000#32))) (addf (mulf (all4 (Host.sin l0)) (Host.sin l)) (mulf (mulf (all4 (Host.cos l0)) (Host.cos l)) (Host.cos dl)))))

/-- A value of each feature, at each of the four points. -/
def feat (v : A S50000x32x1) : A S1x50000x4x32 :=
  broadcastInDim S1x50000x4x32 ![0, 1, 2, 3] bcast_S1x50000x1x32_S1x50000x4x32_0_1_2_3 (shapeCast S1x50000x1x32 v shapeCasts_S50000x32x1_S1x50000x1x32)

/-- A value of each point, at each feature. -/
def point (v : A S1x50000x1x4) : A S1x50000x4x32 :=
  broadcastInDim S1x50000x4x32 ![0, 1, 2, 3] bcast_S1x50000x4x1_S1x50000x4x32_0_1_2_3 (transpose S1x50000x4x1 [0, 1, 3, 2] v transposes_S1x50000x1x4_S1x50000x4x1_0_1_3_2)

/-- The waves. -/
def wave (a : A S50000x32x1) (o : A S50000x1x32) (len dir : A S50000x32x1) (ph ds : A S1x50000x1x4) : A S50000x128 :=
  shapeCast _ (addf (mulf (feat a) (Host.cos (mulf (mulf (broadcastInDim S1x50000x4x32 ![0, 1, 2, 3] bcast_S1x50000x1x32_S1x50000x4x32_0_1_2_3 (Host.divf (broadcastInDim S1x50000x1x32 ![] bcast_S_S1x50000x1x32 (constant S_ .f32 0x40C90FDB#32)) (shapeCast S1x50000x1x32 len shapeCasts_S50000x32x1_S1x50000x1x32))) (Host.cos (subf (feat dir) (point ph)))) (point ds)))) (broadcastInDim S1x50000x4x32 ![0, 1, 2, 3] bcast_S1x50000x1x32_S1x50000x4x32_0_1_2_3 (shapeCast S1x50000x1x32 o shapeCasts_S50000x1x32_S1x50000x1x32))) shapeCasts_S1x50000x4x32_S50000x128

/-- The reference as its stages. -/
def whole (a0 : A S1x50000x6x4x32) (a1 : A S2x1x200000) (a2 a3 : A S1x6) (a4 : A S5) (a5 a6 : A S6x4) : A S50000x128 :=
  wave (amp (xw (shapeCast S50000x6x4x32 a0 shapeCasts_S1x50000x6x4x32_S50000x6x4x32) (dwt (env (shapeCast S50000x6x4x32 a0 shapeCasts_S1x50000x6x4x32_S50000x6x4x32) (wts a4)))) (off (shapeCast S50000x6x4x32 a0 shapeCasts_S1x50000x6x4x32_S50000x6x4x32)) a2)
    (off (shapeCast S50000x6x4x32 a0 shapeCasts_S1x50000x6x4x32_S50000x6x4x32))
    (wlen (soft6 (xw (shapeCast S50000x6x4x32 a0 shapeCasts_S1x50000x6x4x32_S50000x6x4x32) (dwt (env (shapeCast S50000x6x4x32 a0 shapeCasts_S1x50000x6x4x32_S50000x6x4x32) (wts a4))))) a5 a3)
    (dirn (dwt (env (shapeCast S50000x6x4x32 a0 shapeCasts_S1x50000x6x4x32_S50000x6x4x32) (wts a4))) a6)
    (phi (la0 a1) (la a1) (dlo a1)) (dist (la0 a1) (la a1) (dlo a1))

variable (m : (ℓ : Loc nD τ sig) → Buf (Elt Ideal) ℓ) (c : Dev nD)

/-- The reference's composed term is its stages applied to its arguments. -/
theorem out_eq : Value.res_out0 m c = whole (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) := by
  unfold Value.res_out0 Value.res_main_v142
  rfl

/-! ### The stages at an index -/

/-- The weights at an index. -/
theorem wts_apply (a4 : A S5) (d : Fin 5) : wts a4 (ix1 d) = Wave.soft (fun d' => a4 (ix1 d')) d := by
  pointwise [wts, Wave.soft, Wave.top]

/-- A maximum over the middle of three axes, read at an index. -/
theorem max_mid {n0 n1 n2 : Nat} {u : Shape} (v : FVec Ideal ⟨3, ![n0, n1, n2]⟩ .f32) (b : FVec Ideal u .f32)
    (h : (⟨3, ![n0, n1, n2]⟩ : Shape).ReducesTo [1] ⟨2, ![n0, n2]⟩) (hu : 0 < u.numel) (i : Fin n0) (k : Fin n2) :
    Host.reduce FloatOps.maximumf v b h hu (ix2 i k)
      = Finset.univ.fold max (b (Shape.Idx.first hu)) fun q : Fin n1 => v (ix3 i q k) := by
  rw [Host.reduce_eq_fold, Shape.ReducesTo.fold_fiber_r3_a1]
  rfl

/-- The largest of the four exponents, at an index. -/
theorem mx4_apply (g : A S50000x4x32) (n : Fin 50000) (f : Fin 32) :
    mx4 g (ix2 n f) = Finset.univ.fold max Wave.ninf fun v : Fin 4 => g (ix3 n v f) :=
  max_mid g _ _ _ n f

/-- The largest of the six sums, at an index. -/
theorem mx6_apply (s : A S50000x6x32) (n : Fin 50000) (f : Fin 32) :
    mx6 s (ix2 n f) = Finset.univ.fold max Wave.ninf fun d : Fin 6 => s (ix3 n d f) :=
  max_mid s _ _ _ n f

/-- A sum over the middle of three axes, read at an index. -/
theorem sum_mid {n0 n1 n2 : Nat} {u : Shape} (v : FVec Ideal ⟨3, ![n0, n1, n2]⟩ .f32) (b : FVec Ideal u .f32)
    (h : (⟨3, ![n0, n1, n2]⟩ : Shape).ReducesTo [1] ⟨2, ![n0, n2]⟩) (hu : 0 < u.numel) (i : Fin n0) (k : Fin n2) :
    Host.reduceAdd v b h hu (ix2 i k) = b (Shape.Idx.first hu) + ∑ q : Fin n1, v (ix3 i q k) := by
  pointwise

/-- The zero a sum starts from. -/
theorem zero_first : (constant S_ .f32 0x00000000#32 : A S_) (Shape.Idx.first h_S_) = 0 := Ideal.ofBits_zero_f32

/-- The sum over the neighbours at an index. -/
theorem sm4_apply (e : A S50000x4x32) (n : Fin 50000) (f : Fin 32) : sm4 e (ix2 n f) = ∑ v : Fin 4, e (ix3 n v f) := by
  refine (sum_mid e _ _ _ n f).trans ?_
  rw [zero_first, zero_add]

/-- The sum over the channels at an index. -/
theorem sm6_apply (e : A S50000x6x32) (n : Fin 50000) (f : Fin 32) : sm6 e (ix2 n f) = ∑ d : Fin 6, e (ix3 n d f) := by
  refine (sum_mid e _ _ _ n f).trans ?_
  rw [zero_first, zero_add]

/-- The exponentials of the exponents at an index. -/
theorem ex4_apply (g : A S50000x4x32) (b : A S50000x32) (n : Fin 50000) (v : Fin 4) (f : Fin 32) :
    ex4 g b (ix3 n v f) = Ideal.exp (g (ix3 n v f) - max Wave.ninf (b (ix2 n f))) := by
  pointwise [ex4]

/-- The exponentials of the sums at an index. -/
theorem ex6_apply (s : A S50000x6x32) (b : A S50000x32) (n : Fin 50000) (d : Fin 6) (f : Fin 32) :
    ex6 s b (ix3 n d f) = Ideal.exp (s (ix3 n d f) - max Wave.ninf (b (ix2 n f))) := by
  pointwise [ex6]

/-- The four quotients at an index. -/
theorem dv4_apply (e : A S50000x4x32) (b : A S50000x32) (n : Fin 50000) (v : Fin 4) (f : Fin 32) :
    dv4 e b (ix3 n f v) = Ideal.div (e (ix3 n v f)) (b (ix2 n f)) := by
  pointwise [dv4]

/-- The six quotients at an index. -/
theorem dv6_apply (e : A S50000x6x32) (b : A S50000x32) (n : Fin 50000) (d : Fin 6) (f : Fin 32) :
    dv6 e b (ix3 n d f) = Ideal.div (e (ix3 n d f)) (b (ix2 n f)) := by
  pointwise [dv6]

/-- The exponents at an index. -/
theorem env_apply (x : A S50000x6x4x32) (w : A S5) (n : Fin 50000) (v : Fin 4) (f : Fin 32) :
    env x w (ix3 n v f) = Wave.env (fun d => w (ix1 d)) (fun d v f => x (ix4 n d v f)) v f := by
  pointwise [env, Wave.env]

/-- The direction weights at an index. -/
theorem dwt_apply (g : A S50000x4x32) (n : Fin 50000) (f : Fin 32) (v : Fin 4) :
    dwt g (ix3 n f v) = Wave.soft (fun v' => g (ix3 n v' f)) v := by
  simp only [dwt, dv4_apply, sm4_apply, ex4_apply, mx4_apply, Wave.soft, Wave.top]

/-- The weighted sums at an index. -/
theorem xw_apply (x : A S50000x6x4x32) (g : A S50000x32x4) (n : Fin 50000) (d : Fin 6) (f : Fin 32) :
    xw x g (ix3 n d f) = Wave.xw (fun d v f => x (ix4 n d v f)) (fun v f => g (ix3 n f v)) d f := by
  pointwise [xw, Wave.xw, Wave.relaid]

/-- The mean at an index. -/
theorem off_apply (x : A S50000x6x4x32) (n : Fin 50000) (f : Fin 32) :
    off x (ix3 n 0 f) = Wave.off (fun d v f => x (ix4 n d v f)) f := by
  pointwise [off, Wave.off]

/-- The softmax over the channels at an index. -/
theorem soft6_apply (s : A S50000x6x32) (n : Fin 50000) (d : Fin 6) (f : Fin 32) :
    soft6 s (ix3 n d f) = Wave.soft (fun d' => s (ix3 n d' f)) d := by
  simp only [soft6, dv6_apply, sm6_apply, ex6_apply, mx6_apply, Wave.soft, Wave.top]

/-- The wavelength at an index. -/
theorem wlen_apply (s : A S50000x6x32) (a5 : A S6x4) (a3 : A S1x6) (n : Fin 50000) (f : Fin 32) :
    wlen (soft6 s) a5 a3 (ix3 n f 0) = Wave.wlen (fun d f => s (ix3 n d f)) (fun d => a5 (ix2 d 0)) (fun d => a3 (ix2 0 d)) f := by
  pointwise [wlen, ones, soft6_apply, Wave.wlen]

/-- The amplitude at an index. -/
theorem amp_apply (s : A S50000x6x32) (o : A S50000x1x32) (a2 : A S1x6) (n : Fin 50000) (f : Fin 32) :
    amp s o a2 (ix3 n f 0) = Wave.amp (fun d f => s (ix3 n d f)) (fun f => o (ix3 n 0 f)) (fun d => a2 (ix2 0 d)) f := by
  pointwise [amp, Wave.amp]

/-- The direction at an index. -/
theorem dirn_apply (g : A S50000x32x4) (a6 : A S6x4) (n : Fin 50000) (f : Fin 32) :
    dirn g a6 (ix3 n f 0) = Wave.dirn (fun v f => g (ix3 n f v)) (fun v => Ideal.cos (a6 (ix2 0 v))) f := by
  pointwise [dirn, Wave.dirn, Wave.clip, id]

/-- The bearing at an index. -/
theorem phi_apply (a1 : A S2x1x200000) (n : Fin 50000) (k : Fin 4) :
    phi (la0 a1) (la a1) (dlo a1) (ix4 0 n 0 k) = Wave.phi (fun k => a1 (ix3 0 0 ⟨n.val * 4 + k.val, by omega⟩)) (fun k => a1 (ix3 1 0 ⟨n.val * 4 + k.val, by omega⟩)) k := by
  pointwise [phi, all4, la0, la, dlo, pts, pt0, Wave.phi]

/-- The distance at an index. -/
theorem dist_apply (a1 : A S2x1x200000) (n : Fin 50000) (k : Fin 4) :
    dist (la0 a1) (la a1) (dlo a1) (ix4 0 n 0 k) = Wave.dist (fun k => a1 (ix3 0 0 ⟨n.val * 4 + k.val, by omega⟩)) (fun k => a1 (ix3 1 0 ⟨n.val * 4 + k.val, by omega⟩)) k := by
  pointwise [dist, all4, la0, la, dlo, pts, pt0, Wave.dist, Wave.clip, id]

/-- The wave at an index. -/
theorem wave_apply (a : A S50000x32x1) (o : A S50000x1x32) (len dir : A S50000x32x1) (ph ds : A S1x50000x1x4) (n : Fin 50000) (j : Fin 128) :
    wave a o len dir ph ds (ix2 n j) = Wave.wave (a (ix3 n ⟨j.val % 32, by omega⟩ 0)) (o (ix3 n 0 ⟨j.val % 32, by omega⟩)) (len (ix3 n ⟨j.val % 32, by omega⟩ 0)) (dir (ix3 n ⟨j.val % 32, by omega⟩ 0))
      (ph (ix4 0 n 0 ⟨j.val / 32, by omega⟩)) (ds (ix4 0 n 0 ⟨j.val / 32, by omega⟩)) := by
  pointwise [wave, feat, point, Wave.wave]

/-- The channels without the leading unit axis, at an index. -/
theorem rows_apply (a0 : A S1x50000x6x4x32) (n : Fin 50000) (d : Fin 6) (v : Fin 4) (f : Fin 32) :
    shapeCast S50000x6x4x32 a0 shapeCasts_S1x50000x6x4x32_S50000x6x4x32 (ix4 n d v f) = a0 (ix5 0 n d v f) := by
  pointwise

/-- The reference at an index: the wave of the row's channels and points. -/
theorem whole_apply (a0 : A S1x50000x6x4x32) (a1 : A S2x1x200000) (a2 a3 : A S1x6) (a4 : A S5) (a5 a6 : A S6x4)
    (n : Fin 50000) (j : Fin 128) :
    whole a0 a1 a2 a3 a4 a5 a6 (ix2 n j)
      = Wave.out (Wave.soft (fun d => a4 (ix1 d))) (fun d v f => a0 (ix5 0 n d v f)) (fun d => a2 (ix2 0 d))
          (fun d => a3 (ix2 0 d)) (fun d => a5 (ix2 d 0)) (fun v => Ideal.cos (a6 (ix2 0 v)))
          (fun k => a1 (ix3 0 0 ⟨n.val * 4 + k.val, by omega⟩)) (fun k => a1 (ix3 1 0 ⟨n.val * 4 + k.val, by omega⟩))
          ⟨j.val / 32, by omega⟩ ⟨j.val % 32, by omega⟩ := by
  have hw : (fun d => wts a4 (ix1 d)) = Wave.soft (fun d => a4 (ix1 d)) := funext fun d => wts_apply a4 d
  unfold whole
  rw [wave_apply, amp_apply, wlen_apply, dirn_apply, phi_apply, dist_apply]
  simp only [off_apply, xw_apply, dwt_apply, env_apply, rows_apply, hw]
  rfl

end Cert.ReferenceIdeal.Ref

end
-- ==== Proof.Math.lean ====
/-
  The kernel's arithmetic for one row, and that it is the specification's when the channels and the weights' exponents
  are real numbers: softmax without the largest entry subtracted, the arccosine as a two-argument arctangent, a quarter
  for a division by four, and one division of a weighted sum for a sum of softmax weights.
-/
module

public import proofs.«01_k».proof.Proof.Spec
public import Idealize.ShloMosaic.Lib.IdealHost

@[expose] public section

noncomputable section

namespace Wave

open Idealize.ShloMosaic

/-! ### The constants -/

/-- Minus infinity is the least extended real. -/
theorem ninf_eq : ninf = ⊥ := by simp [ninf, Ideal.ofBits, Ideal.ieee]
/-- One is one. -/
theorem one_eq : one = ((1 : ℝ) : EReal) := by
  simp [one, Ideal.ofBits, Ideal.ieee, -EReal.coe_mul]; norm_num
/-- Minus one is minus one. -/
theorem mone_eq : mone = ((-1 : ℝ) : EReal) := by
  simp [mone, Ideal.ofBits, Ideal.ieee, -EReal.coe_mul]; norm_num
/-- Four is four. -/
theorem four_eq : four = ((4 : ℝ) : EReal) := by
  simp [four, Ideal.ofBits, Ideal.ieee, -EReal.coe_mul]; norm_num
/-- A quarter is a quarter. -/
theorem quarter_eq : quarter = ((1 / 4 : ℝ) : EReal) := by
  simp [quarter, Ideal.ofBits, Ideal.ieee, -EReal.coe_mul]; norm_num

/-! ### What the kernel computes for a row -/

/-- The exponent, summed from the left. -/
def kenv (w : Fin 5 → EReal) (x : Fin 6 → Fin 4 → Fin 32 → EReal) (v : Fin 4) (f : Fin 32) : EReal :=
  w 0 * x 1 v f + w 1 * x 2 v f + w 2 * x 3 v f + w 3 * x 4 v f + w 4 * x 5 v f

/-- The direction weights: exponentials times one over their sum. -/
def kdw (w : Fin 5 → EReal) (x : Fin 6 → Fin 4 → Fin 32 → EReal) (v : Fin 4) (f : Fin 32) : EReal :=
  Ideal.exp (kenv w x v f) * Ideal.div one (∑ v' : Fin 4, Ideal.exp (kenv w x v' f))

/-- The arccosine of a clipped value, as the kernel computes it. -/
def kacos (z : EReal) : EReal :=
  Ideal.atan2 (Ideal.sqrt ((one - clip z) * (one + clip z))) (clip z)

/-- The direction. -/
def kdirn (g : Fin 4 → Fin 32 → EReal) (cp : Fin 4 → EReal) (f : Fin 32) : EReal :=
  kacos (∑ v : Fin 4, g v f * cp v) + halfPi

/-- The mean as a product with a quarter. -/
def koff (x : Fin 6 → Fin 4 → Fin 32 → EReal) (f : Fin 32) : EReal :=
  (∑ v : Fin 4, x 0 v f) * quarter

/-- The sum of the six exponentials, from the left. -/
def ktot (s : Fin 6 → Fin 32 → EReal) (f : Fin 32) : EReal :=
  Ideal.exp (s 0 f) + Ideal.exp (s 1 f) + Ideal.exp (s 2 f) + Ideal.exp (s 3 f) + Ideal.exp (s 4 f) + Ideal.exp (s 5 f)

/-- The six exponentials against the coefficients, summed from the left. -/
def kpre (s : Fin 6 → Fin 32 → EReal) (q : Fin 6 → EReal) (f : Fin 32) : EReal :=
  q 0 * Ideal.exp (s 0 f) + q 1 * Ideal.exp (s 1 f) + q 2 * Ideal.exp (s 2 f) + q 3 * Ideal.exp (s 3 f)
    + q 4 * Ideal.exp (s 4 f) + q 5 * Ideal.exp (s 5 f)

/-- The wavelength. -/
def kwlen (s : Fin 6 → Fin 32 → EReal) (q : Fin 6 → EReal) (f : Fin 32) : EReal :=
  Ideal.logistic (Ideal.div (kpre s q f) (ktot s f)) + minLen

/-- The amplitude, summed from the left. -/
def kamp (s : Fin 6 → Fin 32 → EReal) (o : Fin 32 → EReal) (wa : Fin 6 → EReal) (f : Fin 32) : EReal :=
  wa 0 * (s 0 f - o f) + wa 1 * (s 1 f - o f) + wa 2 * (s 2 f - o f) + wa 3 * (s 3 f - o f) + wa 4 * (s 4 f - o f)
    + wa 5 * (s 5 f - o f)

/-- The distance. -/
def kdist (la lo : Fin 4 → EReal) (k : Fin 4) : EReal :=
  kacos (Ideal.sin (la 0) * Ideal.sin (la k) + Ideal.cos (la 0) * Ideal.cos (la k) * Ideal.cos (lo k - lo 0))

/-- One entry of the kernel's result. -/
def kout (w : Fin 5 → EReal) (x : Fin 6 → Fin 4 → Fin 32 → EReal) (wa q : Fin 6 → EReal) (cp la lo : Fin 4 → EReal)
    (k : Fin 4) (f : Fin 32) : EReal :=
  wave (kamp (xw x (kdw w x)) (koff x) wa f) (koff x f) (kwlen (xw x (kdw w x)) q f) (kdirn (kdw w x) cp f)
    (phi la lo k) (kdist la lo k)

/-! ### The equations -/

/-- A sum of real numbers, as an extended real. -/
theorem coe_sum {n : Nat} (a : Fin n → ℝ) : ∑ q, ((a q : ℝ) : EReal) = ((∑ q, a q : ℝ) : EReal) := by
  induction n with
  | zero => simp
  | succ n ih => rw [Fin.sum_univ_succ, Fin.sum_univ_succ, ih, EReal.coe_add]

/-- The largest of real numbers is one of them. -/
theorem top_coe {n : Nat} (a : Fin n → ℝ) (q : Fin n) : ∃ i, top (fun j => ((a j : ℝ) : EReal)) = ((a i : ℝ) : EReal) := by
  obtain ⟨i, -, hi⟩ := Finset.exists_mem_eq_sup (Finset.univ : Finset (Fin n)) ⟨q, Finset.mem_univ q⟩
    (fun j => ((a j : ℝ) : EReal))
  refine ⟨i, ?_⟩
  rw [← hi]
  simp only [top, ninf_eq]
  exact bot_sup_eq _

/-- Softmax of real numbers. -/
theorem soft_coe {n : Nat} (a : Fin n → ℝ) (q : Fin n) :
    soft (fun j => ((a j : ℝ) : EReal)) q = ((Real.exp (a q) / ∑ j, Real.exp (a j) : ℝ) : EReal) := by
  obtain ⟨i, hi⟩ := top_coe a q
  have hp : ∀ g : Fin n → ℝ, 0 < ∑ j, Real.exp (g j) := fun g =>
    Finset.sum_pos (fun j _ => Real.exp_pos _) ⟨q, Finset.mem_univ q⟩
  simp only [soft, hi, ← EReal.coe_sub, Ideal.exp_coe]
  rw [coe_sum, Ideal.div_coe (hp _).ne', ← EReal.coe_mul]
  congr 1
  simp only [Real.exp_sub]
  rw [← Finset.sum_div]
  have h1 := (hp a).ne'
  have h2 := (Real.exp_pos (a i)).ne'
  field_simp

/-- Exponentials times one over their sum are softmax, for real exponents. -/
theorem exp_mul_inv {n : Nat} (a : Fin n → ℝ) (q : Fin n) :
    Ideal.exp ((a q : ℝ) : EReal) * Ideal.div one (∑ j, Ideal.exp ((a j : ℝ) : EReal)) = soft (fun j => ((a j : ℝ) : EReal)) q := by
  have hp : 0 < ∑ j, Real.exp (a j) := Finset.sum_pos (fun j _ => Real.exp_pos _) ⟨q, Finset.mem_univ q⟩
  rw [soft_coe]
  simp only [Ideal.exp_coe]
  rw [coe_sum, Ideal.div_coe hp.ne', one_eq, ← EReal.coe_mul, ← EReal.coe_mul]
  congr 1
  ring

/-- The arccosine of a real number between minus one and one, as a two-argument arctangent. -/
theorem arccos_real (c : ℝ) (h1 : -1 ≤ c) (h2 : c ≤ 1) :
    Ideal.atan2 (Ideal.sqrt ((((1 : ℝ) : EReal) - (c : EReal)) * (((1 : ℝ) : EReal) + (c : EReal)))) (c : EReal)
      = Ideal.acos (c : EReal) := by
  have hn : 0 ≤ (1 - c) * (1 + c) := mul_nonneg (by linarith) (by linarith)
  have hq : (1 - c) * (1 + c) = 1 - c ^ 2 := by ring
  rw [← EReal.coe_sub, ← EReal.coe_add, ← EReal.coe_mul, Ideal.sqrt_coe, if_neg (not_lt.mpr hn), Ideal.acos_coe, if_pos ⟨h1, h2⟩]
  have ha : ∀ y x : ℝ, Ideal.atan2 (y : EReal) (x : EReal) = ((if 0 < x then Real.arctan (y / x)
      else if x < 0 then (if 0 ≤ y then Real.arctan (y / x) + Real.pi else Real.arctan (y / x) - Real.pi)
      else if 0 < y then Real.pi / 2 else if y < 0 then -(Real.pi / 2) else 0 : ℝ) : EReal) := fun _ _ => rfl
  rw [ha, hq]
  congr 1
  rcases lt_trichotomy 0 c with h | h | h
  · rw [if_pos h, Real.arccos_eq_arctan h]
  · subst h
    simp
  · rw [if_neg (not_lt.mpr h.le), if_pos h, if_pos (Real.sqrt_nonneg _)]
    have h3 := Real.arccos_neg c
    rw [Real.arccos_eq_arctan (by linarith : 0 < -c)] at h3
    have h4 : Real.arctan (√(1 - (-c) ^ 2) / -c) = -Real.arctan (√(1 - c ^ 2) / c) := by
      rw [← Real.arctan_neg]
      congr 1
      rw [neg_sq, div_neg]
    rw [h4] at h3
    linarith

/-- A clipped value is a real number between minus one and one. -/
theorem clip_real (z : EReal) : ∃ c : ℝ, -1 ≤ c ∧ c ≤ 1 ∧ clip z = (c : EReal) := by
  rw [clip, one_eq, mone_eq]
  induction z using EReal.rec with
  | bot => exact ⟨-1, le_refl _, by norm_num, by rw [max_eq_left bot_le, min_eq_right (by exact_mod_cast (by norm_num : (-1 : ℝ) ≤ 1))]⟩
  | top => exact ⟨1, by norm_num, le_refl _, by rw [max_eq_right le_top, min_eq_left le_top]⟩
  | coe r =>
    refine ⟨min 1 (max (-1) r), le_min (by norm_num) (le_max_left _ _), min_le_left _ _, ?_⟩
    rw [EReal.coe_strictMono.monotone.map_min, EReal.coe_strictMono.monotone.map_max]

/-- The kernel's arccosine is the arccosine of the clipped value. -/
theorem kacos_eq (z : EReal) : kacos z = Ideal.acos (clip z) := by
  obtain ⟨c, h1, h2, h⟩ := clip_real z
  rw [kacos, h, one_eq, arccos_real c h1 h2]

/-- The exponent in either order of summing. -/
theorem kenv_eq (w : Fin 5 → EReal) (x : Fin 6 → Fin 4 → Fin 32 → EReal) (v : Fin 4) (f : Fin 32) :
    kenv w x v f = env w x v f := by
  rw [kenv, env, Fin.sum_univ_five]
  rfl

/-- A quarter of the sum is the sum over four. -/
theorem koff_eq (x : Fin 6 → Fin 4 → Fin 32 → EReal) : koff x = off x := by
  funext f
  rw [koff, off, four_eq, Ideal.div_coe (by norm_num), quarter_eq]

/-- The amplitude in either order of multiplying and summing. -/
theorem kamp_eq (s : Fin 6 → Fin 32 → EReal) (o : Fin 32 → EReal) (wa : Fin 6 → EReal) (f : Fin 32) :
    kamp s o wa f = amp s o wa f := by
  rw [kamp, amp, Fin.sum_univ_six]
  simp only [mul_comm]

/-- The distance. -/
theorem kdist_eq (la lo : Fin 4 → EReal) (k : Fin 4) : kdist la lo k = dist la lo k := kacos_eq _

/-- The direction. -/
theorem kdirn_eq (g : Fin 4 → Fin 32 → EReal) (cp : Fin 4 → EReal) (f : Fin 32) : kdirn g cp f = dirn g cp f := by
  rw [kdirn, dirn, kacos_eq]

/-- One division of the weighted sum is the sum of the weights' shares, for real sums. -/
theorem kwlen_eq (s : Fin 6 → Fin 32 → EReal) (q d0 ww : Fin 6 → EReal) (f : Fin 32) (hq : ∀ d, q d = d0 d * ww d)
    (hs : ∀ d, ∃ r : ℝ, s d f = (r : EReal)) : kwlen s q f = wlen s d0 ww f := by
  choose r hr using hs
  have hp : 0 < ∑ j, Real.exp (r j) := Finset.sum_pos (fun j _ => Real.exp_pos _) ⟨0, Finset.mem_univ _⟩
  have ht : ktot s f = ((∑ j, Real.exp (r j) : ℝ) : EReal) := by
    rw [← coe_sum, Fin.sum_univ_six]
    simp only [ktot, hr, Ideal.exp_coe]
  have hk : Ideal.div (kpre s q f) (ktot s f) = ∑ d : Fin 6, soft (fun d' => s d' f) d * d0 d * ww d := by
    have h0 : (0 : EReal) ≤ ((1 / ∑ j, Real.exp (r j) : ℝ) : EReal) := by
      exact_mod_cast (one_div_pos.mpr hp).le
    have hT : ((1 / ∑ j, Real.exp (r j) : ℝ) : EReal) ≠ ⊤ := EReal.coe_ne_top _
    have hd : ∀ d, soft (fun d' => s d' f) d * d0 d * ww d
        = q d * Ideal.exp (s d f) * ((1 / ∑ j, Real.exp (r j) : ℝ) : EReal) := by
      intro d
      simp only [hr]
      rw [soft_coe, hq, Ideal.exp_coe, div_eq_mul_one_div, EReal.coe_mul]
      ac_rfl
    simp only [hd]
    rw [ht, Ideal.div_coe hp.ne', kpre]
    generalize (1 / ∑ j, Real.exp (r j)) = T at h0 hT
    rw [Fin.sum_univ_six, EReal.right_distrib_of_nonneg_of_ne_top h0 hT, EReal.right_distrib_of_nonneg_of_ne_top h0 hT,
      EReal.right_distrib_of_nonneg_of_ne_top h0 hT, EReal.right_distrib_of_nonneg_of_ne_top h0 hT,
      EReal.right_distrib_of_nonneg_of_ne_top h0 hT]
  have h1 : one = 1 := one_eq
  rw [kwlen, wlen, hk, Ideal.logistic, h1]

/-- The exponents are real when the weights and the channels are. -/
theorem env_real (w : Fin 5 → EReal) (x : Fin 6 → Fin 4 → Fin 32 → EReal) (hw : ∀ d, ∃ r : ℝ, w d = (r : EReal))
    (hx : ∀ d v f, ∃ r : ℝ, x d v f = (r : EReal)) (v : Fin 4) (f : Fin 32) : ∃ r : ℝ, env w x v f = (r : EReal) := by
  choose W hW using hw
  choose X hX using hx
  refine ⟨∑ d : Fin 5, W d * X ⟨1 + d.val, by omega⟩ v f, ?_⟩
  rw [← coe_sum]
  simp only [env, hW, hX, EReal.coe_mul]

/-- The kernel's direction weights are the softmax weights, and real. -/
theorem kdw_eq (w : Fin 5 → EReal) (x : Fin 6 → Fin 4 → Fin 32 → EReal) (hw : ∀ d, ∃ r : ℝ, w d = (r : EReal))
    (hx : ∀ d v f, ∃ r : ℝ, x d v f = (r : EReal)) (v : Fin 4) (f : Fin 32) :
    kdw w x v f = dw w x v f ∧ ∃ r : ℝ, dw w x v f = (r : EReal) := by
  choose E hE using fun v => env_real w x hw hx v f
  simp only [kdw, dw, kenv_eq, hE]
  exact ⟨exp_mul_inv E v, _, soft_coe E v⟩

/-- The weighted sums are real when the channels and the weights are. -/
theorem xw_real (x : Fin 6 → Fin 4 → Fin 32 → EReal) (g : Fin 4 → Fin 32 → EReal)
    (hx : ∀ d v f, ∃ r : ℝ, x d v f = (r : EReal)) (hg : ∀ v f, ∃ r : ℝ, g v f = (r : EReal)) (d : Fin 6) (f : Fin 32) :
    ∃ r : ℝ, xw x g d f = (r : EReal) := by
  choose X hX using hx
  choose G hG using hg
  refine ⟨∑ v : Fin 4, X d v f * G ⟨f.val % 4, Nat.mod_lt _ (by decide)⟩ ⟨v.val * 8 + f.val / 4, by omega⟩, ?_⟩
  rw [← coe_sum]
  simp only [xw, relaid, hG, hX, EReal.coe_mul]

/-- The kernel's row is the specification's, for real channels and real exponents of the channel weights. -/
theorem kout_eq (a : Fin 5 → EReal) (x : Fin 6 → Fin 4 → Fin 32 → EReal) (wa ww d0 q : Fin 6 → EReal)
    (cp la lo : Fin 4 → EReal) (k : Fin 4) (f : Fin 32) (ha : ∀ d, ∃ r : ℝ, a d = (r : EReal))
    (hx : ∀ d v f, ∃ r : ℝ, x d v f = (r : EReal)) (hq : ∀ d, q d = d0 d * ww d) :
    kout (soft a) x wa q cp la lo k f = out (soft a) x wa ww d0 cp la lo k f := by
  have hw : ∀ d, ∃ r : ℝ, soft a d = (r : EReal) := by
    choose r hr using ha
    intro d
    rw [funext hr]
    exact ⟨_, soft_coe r d⟩
  have hk : kdw (soft a) x = dw (soft a) x := funext fun v => funext fun f => (kdw_eq _ x hw hx v f).1
  have hs : ∀ d, ∃ r : ℝ, xw x (dw (soft a) x) d f = (r : EReal) := fun d =>
    xw_real x _ hx (fun v f => (kdw_eq _ x hw hx v f).2) d f
  rw [kout, out, hk, kamp_eq, koff_eq, kwlen_eq _ q d0 ww f hq hs, kdirn_eq, kdist_eq]

end Wave

end
-- ==== Proof.Pick.lean ====
/-
  A sum against a table of zeros and ones picks entries: the lanes of one feature, one feature, one lane, one point.
-/
module

public import Idealize.ShloMosaic.PureOps.Ideal

@[expose] public section

noncomputable section

namespace Wave

/-- The lane of neighbour `v` and feature `f`. -/
def lane (v : Fin 4) (f : Fin 32) : Fin 128 := ⟨v.val * 32 + f.val, by omega⟩

/-- A sum against the first table: the four lanes of a feature. -/
theorem sum_lanes (g : Fin 128 → EReal) (s : Fin 128 → EReal) (f : Fin 32)
    (hs : ∀ l : Fin 128, s l = if l.val % 32 == f.val then 1 else 0) :
    ∑ l : Fin 128, g l * s l = ∑ v : Fin 4, g (lane v f) := by
  rw [← (finProdFinEquiv (m := 4) (n := 32)).sum_comp (fun l : Fin 128 => g l * s l), Fintype.sum_prod_type]
  refine Finset.sum_congr rfl fun v _ => ?_
  have hv : ∀ q : Fin 32, (finProdFinEquiv (m := 4) (n := 32) (v, q) : Fin 128) = lane v q := fun q => by
    apply Fin.ext
    simp only [finProdFinEquiv, lane, Equiv.coe_fn_mk]
    omega
  rw [Finset.sum_eq_single f]
  · rw [hv, hs, if_pos (by simp only [lane, beq_iff_eq]; omega), mul_one]
  · intro q _ hq
    rw [hv, hs, if_neg, mul_zero]
    simp only [lane, beq_iff_eq]
    have := fun h => hq (Fin.ext h)
    omega
  · intro h; exact absurd (Finset.mem_univ _) h

/-- A sum against a table with one nonzero entry: that entry's value. -/
theorem sum_pick {n : Nat} (g s : Fin n → EReal) (q : Fin n) (hs : ∀ l : Fin n, s l = if l = q then 1 else 0) :
    ∑ l : Fin n, g l * s l = g q := by
  rw [Finset.sum_eq_single q]
  · rw [hs, if_pos rfl, mul_one]
  · intro l _ hl
    rw [hs, if_neg hl, mul_zero]
  · intro h; exact absurd (Finset.mem_univ _) h

end Wave

end
-- ==== Proof.Block.lean ====
/-
  What one block of the kernel computes, entry by entry: each of its values at a row and a feature (or a point), then
  the block's result, which is `Wave.kout` of the row. The four tables enter by what a sum against them is.
-/
module

public import proofs.«01_k».proof.Defs
public import proofs.«01_k».proof.Proof.Gen.KernelIdeal.Skeleton
public import proofs.«01_k».proof.Proof.Math
public import proofs.«01_k».proof.Proof.Pick
public import Idealize.ShloMosaic.Lib.Pointwise
public import Idealize.ShloMosaic.Lib.Pipeline.ValueKit

@[expose] public section

set_option maxRecDepth 16384

noncomputable section

namespace Cert.KernelIdeal.Block

open Cert.KernelIdeal Cert.KernelIdeal.Gen Idealize.ShloMosaic Wave

/-- An array of extended reals. -/
abbrev A (s : Shape) : Type := FVec Ideal s .f32

/-- The feature of a lane. -/
def ft (j : Fin 128) : Fin 32 := ⟨j.val % 32, by omega⟩
/-- The neighbour, or the point, of a lane. -/
def pt (j : Fin 128) : Fin 4 := ⟨j.val / 32, by omega⟩
/-- The lane whose value goes to lane `j`. -/
def mv (j : Fin 128) : Fin 128 := ⟨j.val % 4 * 32 + j.val / 4, by omega⟩

/-- The first table sums a feature's four lanes. -/
def IsS (S : A S128x32) : Prop :=
  ∀ (g : Fin 128 → EReal) (f : Fin 32), ∑ l : Fin 128, g l * S (ix2 l f) = ∑ v : Fin 4, g (lane v f)
/-- The second table takes a lane's feature. -/
def IsSt (T : A S32x128) : Prop :=
  ∀ (g : Fin 32 → EReal) (j : Fin 128), ∑ f : Fin 32, g f * T (ix2 f j) = g (ft j)
/-- The third table lays the lanes out anew. -/
def IsP (P : A S128x128) : Prop :=
  ∀ (g : Fin 128 → EReal) (j : Fin 128), ∑ l : Fin 128, g l * P (ix2 l j) = g (mv j)
/-- The fourth table takes a lane's point. -/
def IsK (K : A S4x128) : Prop :=
  ∀ (g : Fin 4 → EReal) (j : Fin 128), ∑ k : Fin 4, g k * K (ix2 k j) = g (pt j)

/-- The feature of a neighbour's lane. -/
theorem ft_lane (v : Fin 4) (f : Fin 32) : ft (lane v f) = f := Fin.ext (by simp only [ft, lane]; omega)

/-- The lane laid out at a neighbour's lane. -/
theorem mv_lane (v : Fin 4) (f : Fin 32) :
    mv (lane v f) = lane ⟨f.val % 4, Nat.mod_lt _ (by decide)⟩ ⟨v.val * 8 + f.val / 4, by omega⟩ :=
  Fin.ext (by simp only [mv, lane]; omega)

/-- The channels of row `i`. -/
def chans (x0 x1 x2 x3 x4 x5 : A S1000x128) (i : Fin 1000) (d : Fin 6) (v : Fin 4) (f : Fin 32) : EReal :=
  (![x0, x1, x2, x3, x4, x5] : Fin 6 → A S1000x128) d (ix2 i (lane v f))

/-! ### The block's values -/

section Values

variable (S : A S128x32) (hS : IsS S) (T : A S32x128) (hT : IsSt T) (P : A S128x128) (hP : IsP P) (K : A S4x128) (hK : IsK K)
  (i : Fin 1000)
variable (x0 x1 x2 x3 x4 x5 : A S1000x128) (w : Fin 5 → EReal)

include hS in
/-- The mean. -/
theorem pay8_apply (f : Fin 32) : (k0_pay8 (F := Ideal) S x0 : A S1000x32) (ix2 i f) = koff (chans x0 x1 x2 x3 x4 x5 i) f := by
  pointwise [k0_pay8, k0_pay2, koff, chans]
  rw [hS]

/-- The direction weights. -/
def dwb : A S1000x128 := k0_pay10 (F := Ideal) S T x4 x5 (k0_pay9 (F := Ideal) x1 x2 x3 (w 0) (w 1) (w 2)) (w 3) (w 4)

include hS hT in
/-- The direction weights, at a lane. -/
theorem dwb_apply (v : Fin 4) (f : Fin 32) :
    dwb S T x1 x2 x3 x4 x5 w (ix2 i (lane v f)) = kdw w (chans x0 x1 x2 x3 x4 x5 i) v f := by
  pointwise [dwb, k0_pay10, k0_pay9, k0_pay3, k0_pay4, k0_pay5, kdw, kenv, chans]
  rw [hT, hS, ft_lane]

include hS hT in
/-- The direction. -/
theorem pay11_apply (cp : A S1x128) (f : Fin 32) :
    (k0_pay11 (F := Ideal) S T x4 x5 (k0_pay9 (F := Ideal) x1 x2 x3 (w 0) (w 1) (w 2)) (w 3) (w 4) cp : A S1000x32) (ix2 i f)
      = kacos (∑ v : Fin 4, kdw w (chans x0 x1 x2 x3 x4 x5 i) v f * cp (ix2 0 (lane v f))) + halfPi := by
  have h : (k0_pay11 (F := Ideal) S T x4 x5 (k0_pay9 (F := Ideal) x1 x2 x3 (w 0) (w 1) (w 2)) (w 3) (w 4) cp : A S1000x32) (ix2 i f)
      = kacos (∑ l : Fin 128, dwb S T x1 x2 x3 x4 x5 w (ix2 i l) * cp (ix2 0 l) * S (ix2 l f)) + halfPi := by
    unfold k0_pay11
    rw [show k0_pay10 (F := Ideal) S T x4 x5 (k0_pay9 (F := Ideal) x1 x2 x3 (w 0) (w 1) (w 2)) (w 3) (w 4)
      = dwb S T x1 x2 x3 x4 x5 w from rfl]
    pointwise [kacos, clip]
  rw [h, hS]
  simp only [dwb_apply S hS T hT i x0 x1 x2 x3 x4 x5 w]

/-- The direction weights laid out anew. -/
def rb : A S1000x128 := k0_pay12 (F := Ideal) S T P x4 x5 (k0_pay9 (F := Ideal) x1 x2 x3 (w 0) (w 1) (w 2)) (w 3) (w 4)

include hS hT hP in
/-- The direction weights laid out anew, at a lane. -/
theorem rb_apply (v : Fin 4) (f : Fin 32) :
    rb S T P x1 x2 x3 x4 x5 w (ix2 i (lane v f)) = relaid (kdw w (chans x0 x1 x2 x3 x4 x5 i)) v f := by
  have h : rb S T P x1 x2 x3 x4 x5 w (ix2 i (lane v f))
      = ∑ l : Fin 128, dwb S T x1 x2 x3 x4 x5 w (ix2 i l) * P (ix2 l (lane v f)) := by
    unfold rb k0_pay12
    change matmul _ _ (dwb S T x1 x2 x3 x4 x5 w) _ _ _ = _
    pointwise
  rw [h, hP, mv_lane, dwb_apply S hS T hT i x0 x1 x2 x3 x4 x5 w]
  rfl

/-- A channel against the laid-out weights, summed over a feature's lanes. -/
def xwb (x r : A S1000x128) : A S1000x32 :=
  matmul dot_S1000x128_S128x32_S1000x32_1_0_0_1_n_n (some .fp32) (mulf x r) S (constant S1000x32 .f32 0x00000000#32)

include hS in
/-- Such a sum at a feature. -/
theorem xwb_apply (x r : A S1000x128) (f : Fin 32) :
    xwb S x r (ix2 i f) = ∑ v : Fin 4, x (ix2 i (lane v f)) * r (ix2 i (lane v f)) := by
  pointwise [xwb]
  rw [hS]

include hS hT hP in
/-- The weighted sums of the six channels. -/
theorem sums_apply (d : Fin 6) (f : Fin 32) :
    xwb S ((![x0, x1, x2, x3, x4, x5] : Fin 6 → A S1000x128) d) (rb S T P x1 x2 x3 x4 x5 w) (ix2 i f)
      = xw (chans x0 x1 x2 x3 x4 x5 i) (kdw w (chans x0 x1 x2 x3 x4 x5 i)) d f := by
  rw [xwb_apply S hS]
  simp only [rb_apply S hS T hT P hP i x0 x1 x2 x3 x4 x5 w]
  rfl

variable (s0 s1 s2 s3 s4 s5 : A S1000x32) (q wa : Fin 6 → EReal)

/-- The six sums of row `i`. -/
def sums (s0 s1 s2 s3 s4 s5 : A S1000x32) (i : Fin 1000) (d : Fin 6) (f : Fin 32) : EReal :=
  (![s0, s1, s2, s3, s4, s5] : Fin 6 → A S1000x32) d (ix2 i f)

/-- The amplitude, from the six sums and the mean. -/
theorem amp_apply (o : A S1000x32) (f : Fin 32) :
    (k0_pay28 (F := Ideal) o s3 s4 s5 (k0_pay26 (F := Ideal) o s0 s1 s2 (wa 0) (wa 1) (wa 2)) (wa 3) (wa 4) (wa 5) : A S1000x32) (ix2 i f)
      = kamp (sums s0 s1 s2 s3 s4 s5 i) (fun f => o (ix2 i f)) wa f := by
  pointwise [k0_pay28, k0_pay26, kamp, sums]

/-- The wavelength, from the six sums. -/
theorem wlen_apply (f : Fin 32) :
    (k0_pay29 (F := Ideal) (exp s4) (exp s5) (addf (addf (addf (addf (addf (exp s0) (exp s1)) (exp s2)) (exp s3)) (exp s4)) (exp s5))
        (k0_pay27 (F := Ideal) s0 s1 s2 s3 (q 0) (q 1) (q 2) (q 3)) (q 4) (q 5) : A S1000x32) (ix2 i f)
      = kwlen (sums s0 s1 s2 s3 s4 s5 i) q f := by
  pointwise [k0_pay29, k0_pay27, k0_pay19, k0_pay20, k0_pay21, k0_pay22, kwlen, kpre, ktot, sums]

include hT hK in
/-- The block's result, from the features' values and the points' coordinates. -/
theorem wave_apply (o dir a len : A S1000x32) (cr : A S2x1000x4) (j : Fin 128) :
    (k0_pay1 (F := Ideal) T K o dir a len (k0_pay33 (F := Ideal) cr) (k0_pay34 (F := Ideal) cr) (k0_pay35 (F := Ideal) cr)
        (k0_pay36 (F := Ideal) cr) (k0_pay37 (F := Ideal) cr) (k0_pay38 (F := Ideal) cr) (k0_pay39 (F := Ideal) cr) : A S1000x128) (ix2 i j)
      = Wave.wave (a (ix2 i (ft j))) (o (ix2 i (ft j))) (len (ix2 i (ft j))) (dir (ix2 i (ft j)))
          (phi (fun k => cr (ix3 0 i k)) (fun k => cr (ix3 1 i k)) (pt j))
          (kdist (fun k => cr (ix3 0 i k)) (fun k => cr (ix3 1 i k)) (pt j)) := by
  pointwise [k0_pay1, k0_pay30, k0_pay31, k0_pay32, k0_pay33, k0_pay34, k0_pay35, k0_pay36, k0_pay37, k0_pay38, k0_pay39]
  simp only [hT _ j, hK _ j]
  simp only [Wave.wave, phi, kdist, kacos, clip, one, Ideal.ofBits_one_f32]

include hS hT hP hK in
/-- The block's result is the kernel's row arithmetic. -/
theorem block_apply (cp : A S1x128) (cp' : Fin 4 → EReal) (hcp : ∀ (v : Fin 4) (f : Fin 32), cp (ix2 0 (lane v f)) = cp' v) (cr : A S2x1000x4) (j : Fin 128) :
    (k0_pay1 (F := Ideal) T K (k0_pay8 (F := Ideal) S x0)
        (k0_pay11 (F := Ideal) S T x4 x5 (k0_pay9 (F := Ideal) x1 x2 x3 (w 0) (w 1) (w 2)) (w 3) (w 4) cp)
        (k0_pay28 (F := Ideal) (k0_pay8 (F := Ideal) S x0) (xwb S x3 (rb S T P x1 x2 x3 x4 x5 w)) (xwb S x4 (rb S T P x1 x2 x3 x4 x5 w))
          (xwb S x5 (rb S T P x1 x2 x3 x4 x5 w))
          (k0_pay26 (F := Ideal) (k0_pay8 (F := Ideal) S x0) (xwb S x0 (rb S T P x1 x2 x3 x4 x5 w)) (xwb S x1 (rb S T P x1 x2 x3 x4 x5 w))
            (xwb S x2 (rb S T P x1 x2 x3 x4 x5 w)) (wa 0) (wa 1) (wa 2)) (wa 3) (wa 4) (wa 5))
        (k0_pay29 (F := Ideal) (exp (xwb S x4 (rb S T P x1 x2 x3 x4 x5 w))) (exp (xwb S x5 (rb S T P x1 x2 x3 x4 x5 w)))
          (addf (addf (addf (addf (addf (exp (xwb S x0 (rb S T P x1 x2 x3 x4 x5 w))) (exp (xwb S x1 (rb S T P x1 x2 x3 x4 x5 w))))
            (exp (xwb S x2 (rb S T P x1 x2 x3 x4 x5 w)))) (exp (xwb S x3 (rb S T P x1 x2 x3 x4 x5 w))))
            (exp (xwb S x4 (rb S T P x1 x2 x3 x4 x5 w)))) (exp (xwb S x5 (rb S T P x1 x2 x3 x4 x5 w))))
          (k0_pay27 (F := Ideal) (xwb S x0 (rb S T P x1 x2 x3 x4 x5 w)) (xwb S x1 (rb S T P x1 x2 x3 x4 x5 w))
            (xwb S x2 (rb S T P x1 x2 x3 x4 x5 w)) (xwb S x3 (rb S T P x1 x2 x3 x4 x5 w)) (q 0) (q 1) (q 2) (q 3)) (q 4) (q 5))
        (k0_pay33 (F := Ideal) cr) (k0_pay34 (F := Ideal) cr) (k0_pay35 (F := Ideal) cr)
        (k0_pay36 (F := Ideal) cr) (k0_pay37 (F := Ideal) cr) (k0_pay38 (F := Ideal) cr) (k0_pay39 (F := Ideal) cr) : A S1000x128) (ix2 i j)
      = kout w (chans x0 x1 x2 x3 x4 x5 i) wa q cp' (fun k => cr (ix3 0 i k)) (fun k => cr (ix3 1 i k)) (pt j) (ft j) := by
  have hs : sums (xwb S x0 (rb S T P x1 x2 x3 x4 x5 w)) (xwb S x1 (rb S T P x1 x2 x3 x4 x5 w)) (xwb S x2 (rb S T P x1 x2 x3 x4 x5 w))
      (xwb S x3 (rb S T P x1 x2 x3 x4 x5 w)) (xwb S x4 (rb S T P x1 x2 x3 x4 x5 w)) (xwb S x5 (rb S T P x1 x2 x3 x4 x5 w)) i
      = xw (chans x0 x1 x2 x3 x4 x5 i) (kdw w (chans x0 x1 x2 x3 x4 x5 i)) := by
    funext d f
    rw [← sums_apply S hS T hT P hP i x0 x1 x2 x3 x4 x5 w]
    fin_cases d <;> rfl
  have ho : (fun f => (k0_pay8 (F := Ideal) S x0 : A S1000x32) (ix2 i f)) = koff (chans x0 x1 x2 x3 x4 x5 i) :=
    funext fun f => pay8_apply S hS i x0 x1 x2 x3 x4 x5 f
  rw [wave_apply T hT K hK, amp_apply, wlen_apply, hs, ho, pay8_apply S hS i x0 x1 x2 x3 x4 x5,
    pay11_apply S hS T hT i x0 x1 x2 x3 x4 x5]
  simp only [hcp]
  rfl

end Values

/-! ### The loads -/

/-- A cast to the same shape changes nothing. -/
theorem pay2_eq (x : A S1000x128) : k0_pay2 (F := Ideal) x = x := by
  funext y
  pointwise [k0_pay2]
/-- The second channel's load is used as it is. -/
theorem pay3_eq (x : A S1000x128) : k0_pay3 (F := Ideal) x = x := pay2_eq x
/-- The third channel's load is used as it is. -/
theorem pay4_eq (x : A S1000x128) : k0_pay4 (F := Ideal) x = x := pay2_eq x
/-- The fourth channel's load is used as it is. -/
theorem pay5_eq (x : A S1000x128) : k0_pay5 (F := Ideal) x = x := pay2_eq x
/-- The fifth channel's load is used as it is. -/
theorem pay6_eq (x : A S1000x128) : k0_pay6 (F := Ideal) x = x := pay2_eq x
/-- The sixth channel's load is used as it is. -/
theorem pay7_eq (x : A S1000x128) : k0_pay7 (F := Ideal) x = x := pay2_eq x

/-- One number of a row of five, loaded. -/
theorem ld5 (b : A S1x5) (k : Nat) (hk : k < 5) (h) (h' : 0 < (Rect.unit (s := S1x5) ![0, k] ![1, 1] h).shape.numel) :
    View.ld (Val := Elt Ideal) (S := S1x5) (e' := .f32) b (Rect.unit ![0, k] ![1, 1] h) (Shape.Idx.first h') = b (ix2 0 ⟨k, hk⟩) := by
  pointwise

/-- One number of a row of six, loaded. -/
theorem ld6 (b : A S1x6) (k : Nat) (hk : k < 6) (h) (h' : 0 < (Rect.unit (s := S1x6) ![0, k] ![1, 1] h).shape.numel) :
    View.ld (Val := Elt Ideal) (S := S1x6) (e' := .f32) b (Rect.unit ![0, k] ![1, 1] h) (Shape.Idx.first h') = b (ix2 0 ⟨k, hk⟩) := by
  pointwise

end Cert.KernelIdeal.Block

end
-- ==== Proof.Entry.lean ====
/-
  What the arrays hold that the kernel's pipeline reads, from the arguments: the host operations before the kernel, read
  at an index.
-/
module

public import proofs.«01_k».proof.Defs
public import proofs.«01_k».proof.Proof.Gen.KernelIdeal.Value
public import proofs.«01_k».proof.Proof.Spec
public import proofs.«01_k».proof.Proof.Block
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.KernelIdeal.Entry

open Cert.KernelIdeal Cert.KernelIdeal.Gen Cert.KernelIdeal.Block Idealize.ShloMosaic Idealize.ShloMosaic.TcCoe Idealize.SL.Sem

variable (m : (ℓ : Loc nD τ sig) → Buf (Elt Ideal) ℓ) (c : Dev nD)

/-- The channels, as the first argument. -/
abbrev a0 : A S1x50000x6x4x32 := m (c, Proc.tc.devRef main_arg0)
/-- The coordinates. -/
abbrev a1 : A S2x1x200000 := m (c, Proc.tc.devRef main_arg1)
/-- The amplitude's weights. -/
abbrev a2 : A S1x6 := m (c, Proc.tc.devRef main_arg2)
/-- The wavelength's weights. -/
abbrev a3 : A S1x6 := m (c, Proc.tc.devRef main_arg3)
/-- The channel weights before softmax. -/
abbrev a4 : A S5 := m (c, Proc.tc.devRef main_arg4)
/-- The channels' distances. -/
abbrev a5 : A S6x4 := m (c, Proc.tc.devRef main_arg5)
/-- The neighbours' angles. -/
abbrev a6 : A S6x4 := m (c, Proc.tc.devRef main_arg6)

/-- The channels, laid out as rows of 768 lanes. -/
theorem x_apply (n : Fin 50000) (l : Fin 768) :
    (V m c main_call0_v0 : A S50000x768) (ix2 n l)
      = a0 m c (ix5 0 n ⟨l.val / 128, by omega⟩ ⟨l.val / 32 % 4, by omega⟩ ⟨l.val % 32, by omega⟩) := by
  entry_read
  pointwise

/-- The coordinates, four points to a row. -/
theorem loc_apply (a : Fin 2) (n : Fin 50000) (k : Fin 4) :
    (V m c main_call0_v1 : A S2x50000x4) (ix3 a n k) = a1 m c (ix3 a 0 ⟨n.val * 4 + k.val, by omega⟩) := by
  entry_read
  pointwise

/-- The products of distance and wavelength weight. -/
theorem q_apply (d : Fin 6) :
    (V m c main_call0_v17 : A S1x6) (ix2 0 d) = a5 m c (ix2 d 0) * a3 m c (ix2 0 d) := by
  unfold V
  after_reads_at

/-- The cosines of the neighbours' angles, repeated over the features. -/
theorem cp_apply (v : Fin 4) (f : Fin 32) :
    (V m c main_call0_v23 : A S1x128) (ix2 0 (Wave.lane v f)) = Ideal.cos (a6 m c (ix2 0 v)) := by
  have h : (⟨(Wave.lane v f).val / 32, by have := (Wave.lane v f).isLt; omega⟩ : Fin 4) = v := by
    apply Fin.ext
    simp only [Wave.lane]
    omega
  unfold V
  after_reads_at
  rw [h]

/-- The amplitude's weights, as they came. -/
theorem wa_apply (d : Fin 6) : (V m c main_arg2 : A S1x6) (ix2 0 d) = a2 m c (ix2 0 d) := by
  entry_read
  rfl

/-- The channel weights: softmax of the argument. -/
theorem w_apply (d : Fin 5) :
    (V m c main_call0_v12 : A S1x5) (ix2 0 d) = Wave.soft (fun d => a4 m c (ix1 d)) d := by
  unfold V
  after_reads_at
  rfl

end Cert.KernelIdeal.Entry

end
-- ==== Proof.Tables.lean ====
/-
  The kernel's four constant tables hold zeros and ones: where each of them holds a one.
-/
module

public import proofs.«01_k».proof.Defs
public import Idealize.ShloMosaic.Lib.IdealHost

@[expose] public section

set_option maxRecDepth 16384

noncomputable section

namespace Cert.KernelIdeal.Tables

open Cert.KernelIdeal Idealize.ShloMosaic

/-- A bit pattern that is one where `p` holds and zero elsewhere. -/
abbrev bit (p : Bool) : BitVec 32 := if p then 0x3F800000#32 else 0x00000000#32

/-- Such a pattern's value: one or zero. -/
theorem bit_val (p : Bool) : Ideal.ofBits .f32 (bit p) = if p then 1 else 0 := by
  cases p
  · exact Idealize.ShloMosaic.Ideal.ofBits_zero_f32
  · exact Idealize.ShloMosaic.Ideal.ofBits_one_f32

/-- The first table's patterns: lane `l` against feature `f`. -/
theorem lit0_bits : ∀ l : Fin 128, ∀ f : Fin 32, lit0t (l.val * 32 + f.val) = bit (l.val % 32 == f.val) := by
  decide +kernel

/-- The second table's patterns: feature `f` against lane `l`. -/
theorem lit1_bits : ∀ f : Fin 32, ∀ l : Fin 128, lit1t (f.val * 128 + l.val) = bit (l.val % 32 == f.val) := by
  decide +kernel

/-- The third table's patterns: lane `l` against lane `j`. -/
theorem lit2_bits : ∀ l j : Fin 128, lit2t (l.val * 128 + j.val) = bit (l.val == j.val % 4 * 32 + j.val / 4) := by
  decide +kernel

/-- The fourth table's patterns: point `k` against lane `j`. -/
theorem lit3_bits : ∀ k : Fin 4, ∀ j : Fin 128, lit3t (k.val * 128 + j.val) = bit (j.val / 32 == k.val) := by
  decide +kernel

end Cert.KernelIdeal.Tables

end
-- ==== Proof.Consts.lean ====
/-
  The four constant tables that the pipeline reads, and the sums against them.
-/
module

public import proofs.«01_k».proof.Defs
public import proofs.«01_k».proof.Proof.Gen.KernelIdeal.Value
public import proofs.«01_k».proof.Proof.Tables
public import proofs.«01_k».proof.Proof.Pick
public import proofs.«01_k».proof.Proof.Block
public import Idealize.ShloMosaic.Lib.Pointwise
public import Idealize.ShloMosaic.Lib.Claim
public import Idealize.ShloMosaic.Lib.StableHlo.ReadAt

@[expose] public section

set_option maxRecDepth 16384

noncomputable section

namespace Cert.KernelIdeal.Consts

open Cert.KernelIdeal Cert.KernelIdeal.Gen Cert.KernelIdeal.Block Cert.KernelIdeal.Tables Idealize.ShloMosaic Idealize.ShloMosaic.TcCoe Idealize.SL.Sem

variable (m : (ℓ : Loc nD τ sig) → Buf (Elt Ideal) ℓ) (c : Dev nD)

/-- The first table at an index. -/
theorem cst_apply (l : Fin 128) (f : Fin 32) :
    (V m c main_call0_cst : A S128x32) (ix2 l f) = (if (l.val % 32 == f.val) = true then (1 : EReal) else 0 : EReal) := by
  rw [← bit_val, ← lit0_bits]
  unfold V
  after_reads_at
  exact congrArg (fun p => Ideal.ofBits .f32 (lit0t p)) (Shape.rowMajor_val_two (ix2 l f))

/-- The second table at an index. -/
theorem cst_0_apply (f : Fin 32) (l : Fin 128) :
    (V m c main_call0_cst_0 : A S32x128) (ix2 f l) = (if (l.val % 32 == f.val) = true then (1 : EReal) else 0 : EReal) := by
  rw [← bit_val, ← lit1_bits]
  unfold V
  after_reads_at
  exact congrArg (fun p => Ideal.ofBits .f32 (lit1t p)) (Shape.rowMajor_val_two (ix2 f l))

/-- The third table at an index. -/
theorem cst_1_apply (l j : Fin 128) :
    (V m c main_call0_cst_1 : A S128x128) (ix2 l j) = (if (l.val == j.val % 4 * 32 + j.val / 4) = true then (1 : EReal) else 0 : EReal) := by
  rw [← bit_val, ← lit2_bits]
  unfold V
  after_reads_at
  exact congrArg (fun p => Ideal.ofBits .f32 (lit2t p)) (Shape.rowMajor_val_two (ix2 l j))

/-- The fourth table at an index. -/
theorem cst_2_apply (k : Fin 4) (j : Fin 128) :
    (V m c main_call0_cst_2 : A S4x128) (ix2 k j) = (if (j.val / 32 == k.val) = true then (1 : EReal) else 0 : EReal) := by
  rw [← bit_val, ← lit3_bits]
  unfold V
  after_reads_at
  exact congrArg (fun p => Ideal.ofBits .f32 (lit3t p)) (Shape.rowMajor_val_two (ix2 k j))

/-- A sum against the first table. -/
theorem isS : IsS (V m c main_call0_cst) := fun g f =>
  Wave.sum_lanes g _ f fun l => cst_apply m c l f

/-- A sum against the second table. -/
theorem isSt : IsSt (V m c main_call0_cst_0) := fun g j =>
  Wave.sum_pick g _ (ft j) fun f => by
    rw [cst_0_apply]
    simp only [beq_iff_eq, Fin.ext_iff, ft, @eq_comm _ _ f.val]

/-- A sum against the third table. -/
theorem isP : IsP (V m c main_call0_cst_1) := fun g j =>
  Wave.sum_pick g _ (mv j) fun l => by
    rw [cst_1_apply]
    simp only [beq_iff_eq, Fin.ext_iff, mv]

/-- A sum against the fourth table. -/
theorem isK : IsK (V m c main_call0_cst_2) := fun g j =>
  Wave.sum_pick g _ (pt j) fun k => by
    rw [cst_2_apply]
    simp only [beq_iff_eq, Fin.ext_iff, pt, @eq_comm _ _ k.val]

end Cert.KernelIdeal.Consts

end
-- ==== Proof.Array.lean ====
/-
  The result array from its blocks: each block entry is the kernel's arithmetic on the row's block entries, each block
  entry is an entry of the array it is cut from, and the fifty blocks tile the result.
-/
module

public import proofs.«01_k».proof.Defs
public import proofs.«01_k».proof.Proof.Gen.KernelIdeal.Value
public import proofs.«01_k».proof.Proof.Block
public import proofs.«01_k».proof.Proof.Math
public import proofs.«01_k».proof.Proof.Entry
public import proofs.«01_k».proof.Proof.Consts
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Array

open Cert.KernelIdeal Cert.KernelIdeal.Gen Cert.KernelIdeal.Block Cert.KernelIdeal.Entry Idealize.ShloMosaic Idealize.ShloMosaic.TcCoe Idealize.SL.Sem

variable (m : (ℓ : Loc nD τ sig) → Buf (Elt Ideal) ℓ) (c : Dev nD)

/-- A channel's lanes of a block of rows. -/
def col (b : A S1000x768) (d : Fin 6) : A S1000x128 := fun y => b (ix2 (y 0) ⟨d.val * 128 + (y 1).val, by
  have h1 : (y 1).val < 128 := (y 1).isLt
  have := d.isLt
  show _ < 768
  omega⟩)

/-- A load of one channel's lanes is that channel's part of the block. -/
theorem ld_col (b : A S1000x768) (d : Fin 6) (o : Nat) (ho : o = d.val * 128) (h) :
    View.ld (Val := Elt Ideal) (S := S1000x768) (e' := .f32) b (Rect.unit ![0, o] ![1000, 128] h) = col b d := by
  subst ho
  funext y
  pointwise [col]

/-- A block's entry is the kernel's arithmetic on the blocks read at its point. -/
theorem outs_apply (t : Fin cfg0.N) (i : Fin 1000) (j : Fin 128) (hS : IsS (iblk m c 3 t)) (hT : IsSt (iblk m c 4 t)) (hP : IsP (iblk m c 5 t)) (hK : IsK (iblk m c 6 t))
   (cp : Fin 4 → EReal) (hcp : ∀ (v : Fin 4) (f : Fin 32), (iblk m c 7 t : A S1x128) (ix2 0 (Wave.lane v f)) = cp v) :
    outsAt0 m c t (ix2 i j : S1000x128.Idx) =
    Wave.kout (fun d => (iblk m c 0 t : A S1x5) (ix2 0 d)) (chans (col (iblk m c 8 t) 0) (col (iblk m c 8 t) 1) (col (iblk m c 8 t) 2) (col (iblk m c 8 t) 3) (col (iblk m c 8 t) 4) (col (iblk m c 8 t) 5) i)
      (fun d => (iblk m c 2 t : A S1x6) (ix2 0 d)) (fun d => (iblk m c 1 t : A S1x6) (ix2 0 d)) cp
      (fun k => (iblk m c 9 t : A S2x1000x4) (ix3 0 i k)) (fun k => (iblk m c 9 t : A S2x1000x4) (ix3 1 i k)) (pt j) (ft j) := by
  unfold outsAt0
  frame_out
  rw [ld_col (iblk m c 8 t) 0 0 rfl, ld_col (iblk m c 8 t) 1 128 rfl, ld_col (iblk m c 8 t) 2 256 rfl, ld_col (iblk m c 8 t) 3 384 rfl, ld_col (iblk m c 8 t) 4 512 rfl, ld_col (iblk m c 8 t) 5 640 rfl]
  rw [ld5 (iblk m c 0 t) 0, ld5 (iblk m c 0 t) 1, ld5 (iblk m c 0 t) 2, ld5 (iblk m c 0 t) 3, ld5 (iblk m c 0 t) 4]
  rw [ld6 (iblk m c 1 t) 0, ld6 (iblk m c 1 t) 1, ld6 (iblk m c 1 t) 2, ld6 (iblk m c 1 t) 3, ld6 (iblk m c 1 t) 4, ld6 (iblk m c 1 t) 5]
  rw [ld6 (iblk m c 2 t) 0, ld6 (iblk m c 2 t) 1, ld6 (iblk m c 2 t) 2, ld6 (iblk m c 2 t) 3, ld6 (iblk m c 2 t) 4, ld6 (iblk m c 2 t) 5]
  rw [pay2_eq, pay3_eq, pay4_eq, pay5_eq, pay6_eq, pay7_eq]
  exact block_apply (iblk m c 3 t) hS (iblk m c 4 t) hT (iblk m c 5 t) hP (iblk m c 6 t) hK i _ _ _ _ _ _ (fun d => (iblk m c 0 t : A S1x5) (ix2 0 d)) (fun d => (iblk m c 1 t : A S1x6) (ix2 0 d))  (fun d => (iblk m c 2 t : A S1x6) (ix2 0 d)) (iblk m c 7 t) cp hcp (iblk m c 9 t) j
/-- Window zero reads its whole array at every point. -/
theorem idx0 : ∀ t : Fin cfg0.N, win0_0.index t = ![0, 0] := by decide +kernel
/-- Window one reads its whole array at every point. -/
theorem idx1 : ∀ t : Fin cfg0.N, win0_1.index t = ![0, 0] := by decide +kernel
/-- Window two reads its whole array at every point. -/
theorem idx2 : ∀ t : Fin cfg0.N, win0_2.index t = ![0, 0] := by decide +kernel
/-- Window three reads its whole array at every point. -/
theorem idx3 : ∀ t : Fin cfg0.N, win0_3.index t = ![0, 0] := by decide +kernel
/-- Window four reads its whole array at every point. -/
theorem idx4 : ∀ t : Fin cfg0.N, win0_4.index t = ![0, 0] := by decide +kernel
/-- Window five reads its whole array at every point. -/
theorem idx5 : ∀ t : Fin cfg0.N, win0_5.index t = ![0, 0] := by decide +kernel
/-- Window six reads its whole array at every point. -/
theorem idx6 : ∀ t : Fin cfg0.N, win0_6.index t = ![0, 0] := by decide +kernel
/-- Window seven reads its whole array at every point. -/
theorem idx7 : ∀ t : Fin cfg0.N, win0_7.index t = ![0, 0] := by decide +kernel
/-- Window eight reads one block of rows to a point. -/
theorem idx8 : ∀ t : Fin cfg0.N, win0_8.index t = ![t.val, 0] := by decide +kernel
/-- Window nine reads one block of rows to a point. -/
theorem idx9 : ∀ t : Fin cfg0.N, win0_9.index t = ![0, t.val, 0] := by decide +kernel
/-- The result's window writes one block of rows to a point. -/
theorem idx10 : ∀ t : Fin cfg0.N, win0_10.index t = ![t.val, 0] := by decide +kernel
/-- There are fifty points. -/
theorem lt50 (t : Fin cfg0.N) : t.val < 50 := lt_of_lt_of_eq t.isLt (by decide +kernel)

/-- The array row of a block's row. -/
def row (t : Fin cfg0.N) (i : Fin 1000) : Fin 50000 := ⟨t.val * 1000 + i.val, by have := lt50 t; omega⟩

/-- Window zero's block is its array. -/
theorem blk0 (t : Fin cfg0.N) : (iblk m c 0 t : A S1x5) = V m c main_call0_v12 := by
  funext y
  blk_ext [iblk, idx0 t]

/-- Window one's block is its array. -/
theorem blk1 (t : Fin cfg0.N) : (iblk m c 1 t : A S1x6) = V m c main_call0_v17 := by
  funext y
  blk_ext [iblk, idx1 t]

/-- Window two's block is its array. -/
theorem blk2 (t : Fin cfg0.N) : (iblk m c 2 t : A S1x6) = V m c main_arg2 := by
  funext y
  blk_ext [iblk, idx2 t]

/-- Window three's block is its array. -/
theorem blk3 (t : Fin cfg0.N) : (iblk m c 3 t : A S128x32) = V m c main_call0_cst := by
  funext y
  blk_ext [iblk, idx3 t]

/-- Window four's block is its array. -/
theorem blk4 (t : Fin cfg0.N) : (iblk m c 4 t : A S32x128) = V m c main_call0_cst_0 := by
  funext y
  blk_ext [iblk, idx4 t]

/-- Window five's block is its array. -/
theorem blk5 (t : Fin cfg0.N) : (iblk m c 5 t : A S128x128) = V m c main_call0_cst_1 := by
  funext y
  blk_ext [iblk, idx5 t]

/-- Window six's block is its array. -/
theorem blk6 (t : Fin cfg0.N) : (iblk m c 6 t : A S4x128) = V m c main_call0_cst_2 := by
  funext y
  blk_ext [iblk, idx6 t]

/-- Window seven's block is its array. -/
theorem blk7 (t : Fin cfg0.N) : (iblk m c 7 t : A S1x128) = V m c main_call0_v23 := by
  funext y
  blk_ext [iblk, idx7 t]

/-- Window eight's block, read in its array. -/
theorem blk8 (t : Fin cfg0.N) (i : Fin 1000) (l : Fin 768) :
    (iblk m c 8 t : A S1000x768) (ix2 i l) = (V m c main_call0_v0 : A S50000x768) (ix2 (row t i) l) := by
  blk_ext [iblk, row, idx8 t]

/-- Window nine's block, read in its array. -/
theorem blk9 (t : Fin cfg0.N) (a : Fin 2) (i : Fin 1000) (k : Fin 4) :
    (iblk m c 9 t : A S2x1000x4) (ix3 a i k) = (V m c main_call0_v1 : A S2x50000x4) (ix3 a (row t i) k) := by
  blk_ext [iblk, row, idx9 t]

/-- A channel's entry of a block's row is the argument's entry. -/
theorem col_apply (t : Fin cfg0.N) (i : Fin 1000) (d : Fin 6) (v : Fin 4) (f : Fin 32) :
    col (iblk m c 8 t) d (ix2 i (Wave.lane v f)) = a0 m c (ix5 0 (row t i) d v f) := by
  have h : col (iblk m c 8 t) d (ix2 i (Wave.lane v f))
      = (iblk m c 8 t : A S1000x768) (ix2 i ⟨d.val * 128 + (v.val * 32 + f.val), by omega⟩) := rfl
  rw [h, blk8, x_apply]
  congr 1
  blk_ext

/-- The six channels of a block's row are the argument's row. -/
theorem chans_eq (t : Fin cfg0.N) (i : Fin 1000) :
    chans (col (iblk m c 8 t) 0) (col (iblk m c 8 t) 1) (col (iblk m c 8 t) 2) (col (iblk m c 8 t) 3)
        (col (iblk m c 8 t) 4) (col (iblk m c 8 t) 5) i
      = fun d v f => a0 m c (ix5 0 (row t i) d v f) := by
  funext d v f
  fin_cases d
  · exact col_apply m c t i 0 v f
  · exact col_apply m c t i 1 v f
  · exact col_apply m c t i 2 v f
  · exact col_apply m c t i 3 v f
  · exact col_apply m c t i 4 v f
  · exact col_apply m c t i 5 v f

/-- The kernel's result at row `n`, point `k`, feature `f`, from the arguments. -/
def res (n : Fin 50000) (k : Fin 4) (f : Fin 32) : EReal :=
  Wave.kout (Wave.soft fun d => a4 m c (ix1 d)) (fun d v f => a0 m c (ix5 0 n d v f)) (fun d => a2 m c (ix2 0 d))
    (fun d => a5 m c (ix2 d 0) * a3 m c (ix2 0 d)) (fun v => Ideal.cos (a6 m c (ix2 0 v)))
    (fun k => a1 m c (ix3 0 0 ⟨n.val * 4 + k.val, by omega⟩)) (fun k => a1 m c (ix3 1 0 ⟨n.val * 4 + k.val, by omega⟩)) k f

/-- A block's entry, from the arguments. -/
theorem outs_eq (t : Fin cfg0.N) (i : Fin 1000) (j : Fin 128) :
    outsAt0 m c t (ix2 i j : S1000x128.Idx) = res m c (row t i) (pt j) (ft j) := by
  have h0 : (fun d => (iblk m c 0 t : A S1x5) (ix2 0 d)) = Wave.soft fun d => a4 m c (ix1 d) := by
    funext d; rw [blk0, w_apply]
  have h1 : (fun d => (iblk m c 1 t : A S1x6) (ix2 0 d)) = fun d => a5 m c (ix2 d 0) * a3 m c (ix2 0 d) := by
    funext d; rw [blk1, q_apply]
  have h2 : (fun d => (iblk m c 2 t : A S1x6) (ix2 0 d)) = fun d => a2 m c (ix2 0 d) := by
    funext d; rw [blk2, wa_apply]
  have h9 (a : Fin 2) : (fun k => (iblk m c 9 t : A S2x1000x4) (ix3 a i k))
      = fun k : Fin 4 => a1 m c (ix3 a 0 ⟨(row t i).val * 4 + k.val, by omega⟩) := by
    funext k; rw [blk9, loc_apply]
  rw [outs_apply m c t i j (by rw [blk3]; exact Consts.isS m c) (by rw [blk4]; exact Consts.isSt m c)
    (by rw [blk5]; exact Consts.isP m c) (by rw [blk6]; exact Consts.isK m c) (fun v => Ideal.cos (a6 m c (ix2 0 v)))
    (fun v f => by rw [blk7, cp_apply]), h0, h1, h2, h9, h9, chans_eq]
  rfl

/-- The result array after the run, entry by entry. -/
theorem arr_eq : (dats m 0 c).arrAt 10 cfg0.N
    = (fun y => res m c (y 0) (pt (y 1)) (ft (y 1)) : A S50000x128) := by
  refine (dats m 0 c).arrAt_eq_of_covers 10 _ (by decide +kernel) fun t hf y => ?_
  blk_simp [idx10 t]
  rw [after0_10]
  have hy : y = (ix2 (y 0) (y 1) : S1000x128.Idx) := by
    blk_ext
  have h0 : (win0_10.blk t).view.emb y 0 = row t (y 0) := by
    apply Fin.ext
    blk_simp [idx10 t, row]
  have h1 : (win0_10.blk t).view.emb y 1 = y 1 := by
    apply Fin.ext
    blk_simp [idx10 t]
  rw [h0, h1, hy]
  exact outs_eq m c t (y 0) (y 1)

end Cert.KernelIdeal.Array

end
-- ==== Proof.Pre.lean ====
/-
  What the precondition gives: every entry of the channels and of the channel weights is a real number.
-/
module

public import proofs.«01_k».proof.Pre_finite
public import Idealize.ShloMosaic.PureOps.Ideal.Laws
public import Idealize.ShloMosaic.Lib.ReduceAll
public import Idealize.ShloMosaic.Lib.Affine

@[expose] public section

set_option maxRecDepth 16384

noncomputable section

namespace Cert.Pre_finite.Read

open Cert.Pre_finite Idealize.ShloMosaic

/-- The word of plus infinity is the greatest extended real. -/
theorem inf_eq : Ideal.ofBits .f32 0x7F800000#32 = ⊤ := by simp [Ideal.ofBits, Ideal.ieee]

/-- An extended real whose absolute value is below plus infinity is a real number. -/
theorem real_of_abs (a : EReal) (h : Ideal.cmp .olt (max a (-a)) (Ideal.ofBits .f32 0x7F800000#32) = 1#1) :
    ∃ r : ℝ, a = r := by
  rw [inf_eq] at h
  have h' : max a (-a) < ⊤ := by
    by_contra hn
    simp [Ideal.cmp, hn] at h
  induction a with
  | bot => simp at h'
  | coe r => exact ⟨r, rfl⟩
  | top => simp at h'

variable [Facts] (a0 : FVec Ideal S1x50000x6x4x32 .f32) (a1 : FVec Ideal S2x1x200000 .f32) (a2 a3 : FVec Ideal S1x6 .f32)
  (a4 : FVec Ideal S5 .f32) (a5 a6 : FVec Ideal S6x4 .f32)

/-- Under the precondition the channels and the channel weights are real. -/
theorem real (h : fn (F := Ideal) a0 a1 a2 a3 a4 a5 a6 = fun _ => 1#1) :
    (∀ i, ∃ r : ℝ, a0 i = (r : EReal)) ∧ ∀ i, ∃ r : ℝ, a4 i = (r : EReal) := by
  haveI : Subsingleton S_.Idx := ⟨fun _ _ => funext fun a => Fin.elim0 a⟩
  have h0 := congrFun h (Shape.Idx.first Facts.h_S_)
  dsimp only [fn] at h0
  obtain ⟨hx, hw⟩ := IntOp.andi_eq_one.1 h0
  exact ⟨fun i => real_of_abs _ (Host.reduce_andi_all _ _ _ _ _ hx i),
    fun i => real_of_abs _ (Host.reduce_andi_all _ _ _ _ _ hw i)⟩

end Cert.Pre_finite.Read

end
-- ==== Proof.lean ====
/-
  The claims put together. The frames are those of the generated runs. For the values both runs end in a row's wave:
  the kernel's array by `Array.arr_eq`, the reference's by `Ref.whole_apply`, and `Wave.kout_eq` says that the two are
  the same extended real where the channels and the channel weights are real numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Ref
public import proofs.«01_k».proof.Proof.Array
public import proofs.«01_k».proof.Proof.Pre
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The kernel's result array is the reference's, over the kernel's arguments. -/
theorem arrays_eq (m : (ℓ : Loc Cert.KernelIdeal.nD Cert.KernelIdeal.τ Cert.KernelIdeal.sig) → Buf (Elt Ideal) ℓ)
    (c : Dev Cert.KernelIdeal.nD)
    (h0 : ∀ i, ∃ r : ℝ, Cert.KernelIdeal.Entry.a0 m c i = (r : EReal))
    (h4 : ∀ i, ∃ r : ℝ, Cert.KernelIdeal.Entry.a4 m c i = (r : EReal)) :
    Cert.ReferenceIdeal.Ref.whole (Cert.KernelIdeal.Entry.a0 m c) (Cert.KernelIdeal.Entry.a1 m c)
        (Cert.KernelIdeal.Entry.a2 m c) (Cert.KernelIdeal.Entry.a3 m c) (Cert.KernelIdeal.Entry.a4 m c)
        (Cert.KernelIdeal.Entry.a5 m c) (Cert.KernelIdeal.Entry.a6 m c)
      = (Cert.KernelIdeal.Gen.dats m 0 c).arrAt 10 Cert.KernelIdeal.cfg0.N := by
  rw [Cert.KernelIdeal.Array.arr_eq]
  funext y
  have hy : y = ix2 (y 0) (y 1) := by
    blk_ext
  rw [hy]
  refine (Cert.ReferenceIdeal.Ref.whole_apply _ _ _ _ _ _ _ (y 0) (y 1)).trans ?_
  exact (Wave.kout_eq _ _ _ _ _ _ _ _ _ _ _ (fun d => h4 _) (fun d v f => h0 _) (fun d => rfl)).symm

/-- The reference terminates, leaves its arguments as they were and ends with its counters at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The values: kernel and reference compute one function over the extended reals. -/
theorem value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (Cert.KernelIdeal.Gen.dats m 0 c).arrAt 10 Cert.KernelIdeal.cfg0.N, Cert.KernelIdeal.Value.run_blocks m g,
    (θ_run Cert.ReferenceIdeal.defs _ _).mono (fun r h c => ⟨(h c).1.trans ?_, (h c).2⟩)
      (Cert.ReferenceIdeal.Value.run (F := Ideal) m' g')⟩
  obtain ⟨e0, e1, e2, e3, e4, e5, e6⟩ := hagree c
  obtain ⟨h0, h4⟩ := Cert.Pre_finite.Read.real _ _ _ _ _ _ _ (hpre c)
  refine (Cert.ReferenceIdeal.Ref.out_eq m' c).trans ?_
  rw [e0, e1, e2, e3, e4, e5, e6]
  exact arrays_eq m c h0 h4

/-- All the claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  value⟩

end Cert.Proof

end
